-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x512 : Shape := ⟨2, ![768, 512]⟩
abbrev S768x4096 : Shape := ⟨2, ![768, 4096]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x256x768 .bf16) (main_arg1 : FVec F S768x512 .bf16) (main_arg2 : FVec F S768x4096 .bf16) (main_arg3 : FVec F S768x4096 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S768x4096 .bf16 := Host.absf main_arg2
  let main_cst_2 : FVec F S_ .bf16 := constant S_ .bf16 0x7F80#16
  let main_v10 : FVec F S768x4096 .bf16 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  main_v13
-- ==== Pre_finite_scores_ReferenceIdeal.lean ====
abbrev S2x256x768 : Shape := ⟨3, ![2, 256, 768]⟩
abbrev S768x16384 : Shape := ⟨2, ![768, 16384]⟩
abbrev S768x4096 : Shape := ⟨2, ![768, 4096]⟩
abbrev S16384x768 : Shape := ⟨2, ![16384, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x16384 : S_.BroadcastsInDim S768x16384 (![] : Fin 0 → Fin S768x16384.rank)
  reducesTo_S768x16384_S_d0_1 : S768x16384.ReducesTo [0, 1] S_
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x256x768 .bf16) (main_arg1 : FVec F S768x16384 .bf16) (main_arg2 : FVec F S768x4096 .bf16) (main_arg3 : FVec F S768x4096 .bf16) (main_arg4 : FVec F S16384x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x16384 .bf16 := Host.absf main_arg1
  let main_cst_0 : FVec F S_ .bf16 := constant S_ .bf16 0x7F80#16
  let main_v5 : FVec F S768x16384 .bf16 := broadcastInDim S768x16384 ![] bcast_S_S768x16384 main_cst_0
  let main_v6 : IVec S768x16384 1 := cmpf .olt main_v4 main_v5
  let main_c_1 : IVec S_ 1 := constantI S_ 1 1#1
  let main_v7 : IVec S_ 1 := (fun x v => Host.reduce IntOp.andi x v reducesTo_S768x16384_S_d0_1 h_S_) main_v6 main_c_1
  let main_v8 : IVec S_ 1 := andi main_v3 main_v7
  let main_v9 : FVec F S768x4096 .bf16 := Host.absf main_arg2
  let main_cst_2 : FVec F S_ .bf16 := constant S_ .bf16 0x7F80#16
  let main_v10 : FVec F S768x4096 .bf16 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S768x4096 : Shape := ⟨2, ![768, 4096]⟩
abbrev S512x768 : Shape := ⟨2, ![512, 768]⟩
abbrev S_ : Shape := ⟨0, ![]⟩
abbrev S2x256x512 : Shape := ⟨3, ![2, 256, 512]⟩
abbrev S768x128 : Shape := ⟨2, ![768, 128]⟩
abbrev S2x256x128 : Shape := ⟨3, ![2, 256, 128]⟩
abbrev S2x256x8x64 : Shape := ⟨4, ![2, 256, 8, 64]⟩
abbrev S2x256x2x64 : Shape := ⟨4, ![2, 256, 2, 64]⟩
abbrev S2x256x2x4x64 : Shape := ⟨5, ![2, 256, 2, 4, 64]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S31x16x768 : Shape := ⟨3, ![31, 16, 768]⟩
abbrev S31 : Shape := ⟨1, ![31]⟩
abbrev S1 : Shape := ⟨1, ![1]⟩
abbrev S1x16x768 : Shape := ⟨3, ![1, 16, 768]⟩
abbrev S16x768 : Shape := ⟨2, ![16, 768]⟩

abbrev nBuf : Space → Nat
  | .hbm => 66
  | .vmem => 3
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S768x4096, .bf16⟩
  | .hbm, ⟨3, _⟩ => ⟨S768x4096, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x256x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S768x128, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S768x128, .bf16⟩
  | .hbm, ⟨34, _⟩ => ⟨S2x256x128, .f32⟩
  | .hbm, ⟨35, _⟩ => ⟨S2x256x128, .f32⟩
  | .hbm, ⟨36, _⟩ => ⟨S2x256x8x64, .f32⟩
  | .hbm, ⟨37, _⟩ => ⟨S2x256x2x64, .f32⟩
  | .hbm, ⟨38, _⟩ => ⟨S2x256x2x4x64, .f32⟩
  | .hbm, ⟨39, _⟩ => ⟨S2x256x8x64, .f32⟩
  | .hbm, ⟨40, _⟩ => ⟨S2x256x2x64, .f32⟩
  | .hbm, ⟨41, _⟩ => ⟨S2x256x2x4x64, .f32⟩
  | .hbm, ⟨42, _⟩ => ⟨S2x256x8x64, .f32⟩
  | .hbm, ⟨43, _⟩ => ⟨S2x256x8x64, .bf16⟩
  | .hbm, ⟨44, _⟩ => ⟨S2x256x8x64, .bf16⟩
  | .hbm, ⟨45, _⟩ => ⟨S2x8x256x256, .f32⟩
  | .hbm, ⟨46, _⟩ => ⟨S_, .f32⟩
  | .hbm, ⟨47, _⟩ => ⟨S2x8x256x256, .f32⟩
  | .hbm, ⟨48, _⟩ => ⟨S2x8x256x256, .f32⟩
  | .hbm, ⟨49, _⟩ => ⟨S2x8x256x256, .f32⟩
  | .hbm, ⟨50, _⟩ => ⟨S_, .f32⟩
  | .hbm, ⟨51, _⟩ => ⟨S2x8x256, .f32⟩
  | .hbm, ⟨52, _⟩ => ⟨S2x8x256x1, .f32⟩
  | .hbm, ⟨53, _⟩ => ⟨S2x8x256x256, .f32⟩
  | .hbm, ⟨54, _⟩ => ⟨S2x8x256x256, .f32⟩
  | .hbm, ⟨55, _⟩ => ⟨S2x8x256x256, .bf16⟩
  | .hbm, ⟨56, _⟩ => ⟨S2x256x8x64, .bf16⟩
  | .hbm, ⟨57, _⟩ => ⟨S2x8x64x256, .f32⟩
  | .hbm, ⟨58, _⟩ => ⟨S2x256x8x64, .f32⟩
  | .hbm, ⟨59, _⟩ => ⟨S2x256x512, .f32⟩
  | .hbm, ⟨60, _⟩ => ⟨S2x256x512, .bf16⟩
  | .hbm, ⟨61, _⟩ => ⟨S2x256x768, .f32⟩
  | .hbm, ⟨62, _⟩ => ⟨S512x768, .f32⟩
  | .hbm, ⟨63, _⟩ => ⟨S512x768, .bf16⟩
  | .hbm, ⟨64, _⟩ => ⟨S512x768, .bf16⟩
  | .hbm, ⟨65, _⟩ => ⟨S2x256x768, .bf16⟩
  | .local _ .vmem, ⟨0, _⟩ => ⟨S512x768, .bf16⟩
  | .local _ .vmem, ⟨1, _⟩ => ⟨S512x768, .bf16⟩
  | .local _ .vmem, ⟨2, _⟩ => ⟨S31x16x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_125 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c16_i32_127 : BitVec 32 := 16#32
  let v130 : BitVec 32 := Scalar.muli v129 c16_i32_127
  let c0_i32_135 : BitVec 32 := 0#32
  ![v130.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_131 : BitVec 32 := 1#32
  let v131 : BitVec 32 := Scalar.muli v129 c1_i32_131
  let v132 : BitVec 32 := Scalar.addi c0_i32_132 v131
  v132.toNat
def k0_dev33 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_136 : BitVec 32 := 2#32
  let v140 : BitVec 32 := Scalar.addi v2 c2_i32_136
  let c32_i32_137 : BitVec 32 := 32#32
  let v141 : BitVec 32 := Scalar.remsi v140 c32_i32_137
  let c1_i32_142 : BitVec 32 := 1#32
  let v143 : BitVec 32 := Scalar.muli v141 c1_i32_142
  let v144 : BitVec 32 := Scalar.addi c0_i32_143 v143
  v144.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v152 : BitVec 32 := Scalar.addi v2 c3_i32_147
  let c32_i32_148 : BitVec 32 := 32#32
  let v153 : BitVec 32 := Scalar.remsi v152 c32_i32_148
  let c1_i32_153 : BitVec 32 := 1#32
  let v155 : BitVec 32 := Scalar.muli v153 c1_i32_153
  let v156 : BitVec 32 := Scalar.addi c0_i32_154 v155
  v156.toNat
def k0_dev35 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_158 : BitVec 32 := 4#32
  let v164 : BitVec 32 := Scalar.addi v2 c4_i32_158
  let c32_i32_159 : BitVec 32 := 32#32
  let v165 : BitVec 32 := Scalar.remsi v164 c32_i32_159
  let c1_i32_164 : BitVec 32 := 1#32
  let v167 : BitVec 32 := Scalar.muli v165 c1_i32_164
  let v168 : BitVec 32 := Scalar.addi c0_i32_165 v167
  v168.toNat
def k0_dev36 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_169 : BitVec 32 := 5#32
  let v176 : BitVec 32 := Scalar.addi v2 c5_i32_169
  let c32_i32_170 : BitVec 32 := 32#32
  let v177 : BitVec 32 := Scalar.remsi v176 c32_i32_170
  let c1_i32_175 : BitVec 32 := 1#32
  let v179 : BitVec 32 := Scalar.muli v177 c1_i32_175
  let v180 : BitVec 32 := Scalar.addi c0_i32_176 v179
  v180.toNat
def k0_dev37 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_180 : BitVec 32 := 6#32
  let v188 : BitVec 32 := Scalar.addi v2 c6_i32_180
  let c32_i32_181 : BitVec 32 := 32#32
  let v189 : BitVec 32 := Scalar.remsi v188 c32_i32_181
  let c1_i32_186 : BitVec 32 := 1#32
  let v191 : BitVec 32 := Scalar.muli v189 c1_i32_186
  let v192 : BitVec 32 := Scalar.addi c0_i32_187 v191
  v192.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_191 : BitVec 32 := 7#32
  let v200 : BitVec 32 := Scalar.addi v2 c7_i32_191
  let c32_i32_192 : BitVec 32 := 32#32
  let v201 : BitVec 32 := Scalar.remsi v200 c32_i32_192
  let c1_i32_197 : BitVec 32 := 1#32
  let v203 : BitVec 32 := Scalar.muli v201 c1_i32_197
  let v204 : BitVec 32 := Scalar.addi c0_i32_198 v203
  v204.toNat
def k0_dev39 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_202 : BitVec 32 := 8#32
  let v212 : BitVec 32 := Scalar.addi v2 c8_i32_202
  let c32_i32_203 : BitVec 32 := 32#32
  let v213 : BitVec 32 := Scalar.remsi v212 c32_i32_203
  let c1_i32_208 : BitVec 32 := 1#32
  let v215 : BitVec 32 := Scalar.muli v213 c1_i32_208
  let v216 : BitVec 32 := Scalar.addi c0_i32_209 v215
  v216.toNat
def k0_dev40 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_213 : BitVec 32 := 9#32
  let v224 : BitVec 32 := Scalar.addi v2 c9_i32_213
  let c32_i32_214 : BitVec 32 := 32#32
  let v225 : BitVec 32 := Scalar.remsi v224 c32_i32_214
  let c1_i32_219 : BitVec 32 := 1#32
  let v227 : BitVec 32 := Scalar.muli v225 c1_i32_219
  let v228 : BitVec 32 := Scalar.addi c0_i32_220 v227
  v228.toNat
def k0_dev41 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_224 : BitVec 32 := 10#32
  let v236 : BitVec 32 := Scalar.addi v2 c10_i32_224
  let c32_i32_225 : BitVec 32 := 32#32
  let v237 : BitVec 32 := Scalar.remsi v236 c32_i32_225
  let c1_i32_230 : BitVec 32 := 1#32
  let v239 : BitVec 32 := Scalar.muli v237 c1_i32_230
  let v240 : BitVec 32 := Scalar.addi c0_i32_231 v239
  v240.toNat
def k0_dev42 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_235 : BitVec 32 := 11#32
  let v248 : BitVec 32 := Scalar.addi v2 c11_i32_235
  let c32_i32_236 : BitVec 32 := 32#32
  let v249 : BitVec 32 := Scalar.remsi v248 c32_i32_236
  let c1_i32_241 : BitVec 32 := 1#32
  let v251 : BitVec 32 := Scalar.muli v249 c1_i32_241
  let v252 : BitVec 32 := Scalar.addi c0_i32_242 v251
  v252.toNat
def k0_dev43 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_246 : BitVec 32 := 12#32
  let v260 : BitVec 32 := Scalar.addi v2 c12_i32_246
  let c32_i32_247 : BitVec 32 := 32#32
  let v261 : BitVec 32 := Scalar.remsi v260 c32_i32_247
  let c1_i32_252 : BitVec 32 := 1#32
  let v263 : BitVec 32 := Scalar.muli v261 c1_i32_252
  let v264 : BitVec 32 := Scalar.addi c0_i32_253 v263
  v264.toNat
def k0_dev44 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_257 : BitVec 32 := 13#32
  let v272 : BitVec 32 := Scalar.addi v2 c13_i32_257
  let c32_i32_258 : BitVec 32 := 32#32
  let v273 : BitVec 32 := Scalar.remsi v272 c32_i32_258
  let c1_i32_263 : BitVec 32 := 1#32
  let v275 : BitVec 32 := Scalar.muli v273 c1_i32_263
  let v276 : BitVec 32 := Scalar.addi c0_i32_264 v275
  v276.toNat
def k0_dev45 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_268 : BitVec 32 := 14#32
  let v284 : BitVec 32 := Scalar.addi v2 c14_i32_268
  let c32_i32_269 : BitVec 32 := 32#32
  let v285 : BitVec 32 := Scalar.remsi v284 c32_i32_269
  let c1_i32_274 : BitVec 32 := 1#32
  let v287 : BitVec 32 := Scalar.muli v285 c1_i32_274
  let v288 : BitVec 32 := Scalar.addi c0_i32_275 v287
  v288.toNat
def k0_dev46 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_279 : BitVec 32 := 15#32
  let v296 : BitVec 32 := Scalar.addi v2 c15_i32_279
  let c32_i32_280 : BitVec 32 := 32#32
  let v297 : BitVec 32 := Scalar.remsi v296 c32_i32_280
  let c1_i32_285 : BitVec 32 := 1#32
  let v299 : BitVec 32 := Scalar.muli v297 c1_i32_285
  let v300 : BitVec 32 := Scalar.addi c0_i32_286 v299
  v300.toNat
def k0_dev47 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_290 : BitVec 32 := 16#32
  let v308 : BitVec 32 := Scalar.addi v2 c16_i32_290
  let c32_i32_291 : BitVec 32 := 32#32
  let v309 : BitVec 32 := Scalar.remsi v308 c32_i32_291
  let c1_i32_296 : BitVec 32 := 1#32
  let v311 : BitVec 32 := Scalar.muli v309 c1_i32_296
  let v312 : BitVec 32 := Scalar.addi c0_i32_297 v311
  v312.toNat
def k0_dev48 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_301 : BitVec 32 := 17#32
  let v320 : BitVec 32 := Scalar.addi v2 c17_i32_301
  let c32_i32_302 : BitVec 32 := 32#32
  let v321 : BitVec 32 := Scalar.remsi v320 c32_i32_302
  let c1_i32_307 : BitVec 32 := 1#32
  let v323 : BitVec 32 := Scalar.muli v321 c1_i32_307
  let v324 : BitVec 32 := Scalar.addi c0_i32_308 v323
  v324.toNat
def k0_dev49 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_312 : BitVec 32 := 18#32
  let v332 : BitVec 32 := Scalar.addi v2 c18_i32_312
  let c32_i32_313 : BitVec 32 := 32#32
  let v333 : BitVec 32 := Scalar.remsi v332 c32_i32_313
  let c1_i32_318 : BitVec 32 := 1#32
  let v335 : BitVec 32 := Scalar.muli v333 c1_i32_318
  let v336 : BitVec 32 := Scalar.addi c0_i32_319 v335
  v336.toNat
def k0_dev50 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_323 : BitVec 32 := 19#32
  let v344 : BitVec 32 := Scalar.addi v2 c19_i32_323
  let c32_i32_324 : BitVec 32 := 32#32
  let v345 : BitVec 32 := Scalar.remsi v344 c32_i32_324
  let c1_i32_329 : BitVec 32 := 1#32
  let v347 : BitVec 32 := Scalar.muli v345 c1_i32_329
  let v348 : BitVec 32 := Scalar.addi c0_i32_330 v347
  v348.toNat
def k0_dev51 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_334 : BitVec 32 := 20#32
  let v356 : BitVec 32 := Scalar.addi v2 c20_i32_334
  let c32_i32_335 : BitVec 32 := 32#32
  let v357 : BitVec 32 := Scalar.remsi v356 c32_i32_335
  let c1_i32_340 : BitVec 32 := 1#32
  let v359 : BitVec 32 := Scalar.muli v357 c1_i32_340
  let v360 : BitVec 32 := Scalar.addi c0_i32_341 v359
  v360.toNat
def k0_dev52 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_345 : BitVec 32 := 21#32
  let v368 : BitVec 32 := Scalar.addi v2 c21_i32_345
  let c32_i32_346 : BitVec 32 := 32#32
  let v369 : BitVec 32 := Scalar.remsi v368 c32_i32_346
  let c1_i32_351 : BitVec 32 := 1#32
  let v371 : BitVec 32 := Scalar.muli v369 c1_i32_351
  let v372 : BitVec 32 := Scalar.addi c0_i32_352 v371
  v372.toNat
def k0_dev53 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_356 : BitVec 32 := 22#32
  let v380 : BitVec 32 := Scalar.addi v2 c22_i32_356
  let c32_i32_357 : BitVec 32 := 32#32
  let v381 : BitVec 32 := Scalar.remsi v380 c32_i32_357
  let c1_i32_362 : BitVec 32 := 1#32
  let v383 : BitVec 32 := Scalar.muli v381 c1_i32_362
  let v384 : BitVec 32 := Scalar.addi c0_i32_363 v383
  v384.toNat
def k0_dev54 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_367 : BitVec 32 := 23#32
  let v392 : BitVec 32 := Scalar.addi v2 c23_i32_367
  let c32_i32_368 : BitVec 32 := 32#32
  let v393 : BitVec 32 := Scalar.remsi v392 c32_i32_368
  let c1_i32_373 : BitVec 32 := 1#32
  let v395 : BitVec 32 := Scalar.muli v393 c1_i32_373
  let v396 : BitVec 32 := Scalar.addi c0_i32_374 v395
  v396.toNat
def k0_dev55 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_378 : BitVec 32 := 24#32
  let v404 : BitVec 32 := Scalar.addi v2 c24_i32_378
  let c32_i32_379 : BitVec 32 := 32#32
  let v405 : BitVec 32 := Scalar.remsi v404 c32_i32_379
  let c1_i32_384 : BitVec 32 := 1#32
  let v407 : BitVec 32 := Scalar.muli v405 c1_i32_384
  let v408 : BitVec 32 := Scalar.addi c0_i32_385 v407
  v408.toNat
def k0_dev56 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_389 : BitVec 32 := 25#32
  let v416 : BitVec 32 := Scalar.addi v2 c25_i32_389
  let c32_i32_390 : BitVec 32 := 32#32
  let v417 : BitVec 32 := Scalar.remsi v416 c32_i32_390
  let c1_i32_395 : BitVec 32 := 1#32
  let v419 : BitVec 32 := Scalar.muli v417 c1_i32_395
  let v420 : BitVec 32 := Scalar.addi c0_i32_396 v419
  v420.toNat
def k0_dev57 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_400 : BitVec 32 := 26#32
  let v428 : BitVec 32 := Scalar.addi v2 c26_i32_400
  let c32_i32_401 : BitVec 32 := 32#32
  let v429 : BitVec 32 := Scalar.remsi v428 c32_i32_401
  let c1_i32_406 : BitVec 32 := 1#32
  let v431 : BitVec 32 := Scalar.muli v429 c1_i32_406
  let v432 : BitVec 32 := Scalar.addi c0_i32_407 v431
  v432.toNat
def k0_dev58 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_411 : BitVec 32 := 27#32
  let v440 : BitVec 32 := Scalar.addi v2 c27_i32_411
  let c32_i32_412 : BitVec 32 := 32#32
  let v441 : BitVec 32 := Scalar.remsi v440 c32_i32_412
  let c1_i32_417 : BitVec 32 := 1#32
  let v443 : BitVec 32 := Scalar.muli v441 c1_i32_417
  let v444 : BitVec 32 := Scalar.addi c0_i32_418 v443
  v444.toNat
def k0_dev59 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_422 : BitVec 32 := 28#32
  let v452 : BitVec 32 := Scalar.addi v2 c28_i32_422
  let c32_i32_423 : BitVec 32 := 32#32
  let v453 : BitVec 32 := Scalar.remsi v452 c32_i32_423
  let c1_i32_428 : BitVec 32 := 1#32
  let v455 : BitVec 32 := Scalar.muli v453 c1_i32_428
  let v456 : BitVec 32 := Scalar.addi c0_i32_429 v455
  v456.toNat
def k0_dev60 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_433 : BitVec 32 := 29#32
  let v464 : BitVec 32 := Scalar.addi v2 c29_i32_433
  let c32_i32_434 : BitVec 32 := 32#32
  let v465 : BitVec 32 := Scalar.remsi v464 c32_i32_434
  let c1_i32_439 : BitVec 32 := 1#32
  let v467 : BitVec 32 := Scalar.muli v465 c1_i32_439
  let v468 : BitVec 32 := Scalar.addi c0_i32_440 v467
  v468.toNat
def k0_dev61 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_444 : BitVec 32 := 30#32
  let v476 : BitVec 32 := Scalar.addi v2 c30_i32_444
  let c32_i32_445 : BitVec 32 := 32#32
  let v477 : BitVec 32 := Scalar.remsi v476 c32_i32_445
  let c1_i32_450 : BitVec 32 := 1#32
  let v479 : BitVec 32 := Scalar.muli v477 c1_i32_450
  let v480 : BitVec 32 := Scalar.addi c0_i32_451 v479
  v480.toNat
def k0_dev62 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_455 : BitVec 32 := 31#32
  let v488 : BitVec 32 := Scalar.addi v2 c31_i32_455
  let c32_i32_456 : BitVec 32 := 32#32
  let v489 : BitVec 32 := Scalar.remsi v488 c32_i32_456
  let c1_i32_461 : BitVec 32 := 1#32
  let v491 : BitVec 32 := Scalar.muli v489 c1_i32_461
  let v492 : BitVec 32 := Scalar.addi c0_i32_462 v491
  v492.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_466 : BitVec 32 := 16#32
  let v500 : BitVec 32 := Scalar.muli v2 c16_i32_466
  let v501 : Index := Scalar.indexCast v500
  let c0 : Index := 0#32
  ![v501.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_466 : BitVec 32 := 16#32
  let v500 : BitVec 32 := Scalar.muli v2 c16_i32_466
  let c0_i32_847 : BitVec 32 := 0#32
  ![v500.toNat, 0]
def k0_dev63 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_841 : BitVec 32 := 1#32
  let v880 : BitVec 32 := Scalar.addi v2 c1_i32_841
  let c32_i32_842 : BitVec 32 := 32#32
  let v881 : BitVec 32 := Scalar.remsi v880 c32_i32_842
  let c1_i32_845 : BitVec 32 := 1#32
  let v882 : BitVec 32 := Scalar.muli v881 c1_i32_845
  let v883 : BitVec 32 := Scalar.addi c0_i32_846 v882
  v883.toNat
def k0_dev64 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_849 : BitVec 32 := 2#32
  let v890 : BitVec 32 := Scalar.addi v2 c2_i32_849
  let c32_i32_850 : BitVec 32 := 32#32
  let v891 : BitVec 32 := Scalar.remsi v890 c32_i32_850
  let c1_i32_853 : BitVec 32 := 1#32
  let v892 : BitVec 32 := Scalar.muli v891 c1_i32_853
  let v893 : BitVec 32 := Scalar.addi c0_i32_854 v892
  v893.toNat
def k0_dev65 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_857 : BitVec 32 := 3#32
  let v900 : BitVec 32 := Scalar.addi v2 c3_i32_857
  let c32_i32_858 : BitVec 32 := 32#32
  let v901 : BitVec 32 := Scalar.remsi v900 c32_i32_858
  let c1_i32_861 : BitVec 32 := 1#32
  let v902 : BitVec 32 := Scalar.muli v901 c1_i32_861
  let v903 : BitVec 32 := Scalar.addi c0_i32_862 v902
  v903.toNat
def k0_dev66 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_865 : BitVec 32 := 4#32
  let v910 : BitVec 32 := Scalar.addi v2 c4_i32_865
  let c32_i32_866 : BitVec 32 := 32#32
  let v911 : BitVec 32 := Scalar.remsi v910 c32_i32_866
  let c1_i32_869 : BitVec 32 := 1#32
  let v912 : BitVec 32 := Scalar.muli v911 c1_i32_869
  let v913 : BitVec 32 := Scalar.addi c0_i32_870 v912
  v913.toNat
def k0_dev67 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_873 : BitVec 32 := 5#32
  let v920 : BitVec 32 := Scalar.addi v2 c5_i32_873
  let c32_i32_874 : BitVec 32 := 32#32
  let v921 : BitVec 32 := Scalar.remsi v920 c32_i32_874
  let c1_i32_877 : BitVec 32 := 1#32
  let v922 : BitVec 32 := Scalar.muli v921 c1_i32_877
  let v923 : BitVec 32 := Scalar.addi c0_i32_878 v922
  v923.toNat
def k0_dev68 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_881 : BitVec 32 := 6#32
  let v930 : BitVec 32 := Scalar.addi v2 c6_i32_881
  let c32_i32_882 : BitVec 32 := 32#32
  let v931 : BitVec 32 := Scalar.remsi v930 c32_i32_882
  let c1_i32_885 : BitVec 32 := 1#32
  let v932 : BitVec 32 := Scalar.muli v931 c1_i32_885
  let v933 : BitVec 32 := Scalar.addi c0_i32_886 v932
  v933.toNat
def k0_dev69 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_889 : BitVec 32 := 7#32
  let v940 : BitVec 32 := Scalar.addi v2 c7_i32_889
  let c32_i32_890 : BitVec 32 := 32#32
  let v941 : BitVec 32 := Scalar.remsi v940 c32_i32_890
  let c1_i32_893 : BitVec 32 := 1#32
  let v942 : BitVec 32 := Scalar.muli v941 c1_i32_893
  let v943 : BitVec 32 := Scalar.addi c0_i32_894 v942
  v943.toNat
def k0_dev70 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_897 : BitVec 32 := 8#32
  let v950 : BitVec 32 := Scalar.addi v2 c8_i32_897
  let c32_i32_898 : BitVec 32 := 32#32
  let v951 : BitVec 32 := Scalar.remsi v950 c32_i32_898
  let c1_i32_901 : BitVec 32 := 1#32
  let v952 : BitVec 32 := Scalar.muli v951 c1_i32_901
  let v953 : BitVec 32 := Scalar.addi c0_i32_902 v952
  v953.toNat
def k0_dev71 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_905 : BitVec 32 := 9#32
  let v960 : BitVec 32 := Scalar.addi v2 c9_i32_905
  let c32_i32_906 : BitVec 32 := 32#32
  let v961 : BitVec 32 := Scalar.remsi v960 c32_i32_906
  let c1_i32_909 : BitVec 32 := 1#32
  let v962 : BitVec 32 := Scalar.muli v961 c1_i32_909
  let v963 : BitVec 32 := Scalar.addi c0_i32_910 v962
  v963.toNat
def k0_dev72 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_913 : BitVec 32 := 10#32
  let v970 : BitVec 32 := Scalar.addi v2 c10_i32_913
  let c32_i32_914 : BitVec 32 := 32#32
  let v971 : BitVec 32 := Scalar.remsi v970 c32_i32_914
  let c1_i32_917 : BitVec 32 := 1#32
  let v972 : BitVec 32 := Scalar.muli v971 c1_i32_917
  let v973 : BitVec 32 := Scalar.addi c0_i32_918 v972
  v973.toNat
def k0_dev73 (d0 : Dev nD) : Nat :=
  let c0_i32_926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_921 : BitVec 32 := 11#32
  let v980 : BitVec 32 := Scalar.addi v2 c11_i32_921
  let c32_i32_922 : BitVec 32 := 32#32
  let v981 : BitVec 32 := Scalar.remsi v980 c32_i32_922
  let c1_i32_925 : BitVec 32 := 1#32
  let v982 : BitVec 32 := Scalar.muli v981 c1_i32_925
  let v983 : BitVec 32 := Scalar.addi c0_i32_926 v982
  v983.toNat
def k0_dev74 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_929 : BitVec 32 := 12#32
  let v990 : BitVec 32 := Scalar.addi v2 c12_i32_929
  let c32_i32_930 : BitVec 32 := 32#32
  let v991 : BitVec 32 := Scalar.remsi v990 c32_i32_930
  let c1_i32_933 : BitVec 32 := 1#32
  let v992 : BitVec 32 := Scalar.muli v991 c1_i32_933
  let v993 : BitVec 32 := Scalar.addi c0_i32_934 v992
  v993.toNat
def k0_dev75 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_937 : BitVec 32 := 13#32
  let v1000 : BitVec 32 := Scalar.addi v2 c13_i32_937
  let c32_i32_938 : BitVec 32 := 32#32
  let v1001 : BitVec 32 := Scalar.remsi v1000 c32_i32_938
  let c1_i32_941 : BitVec 32 := 1#32
  let v1002 : BitVec 32 := Scalar.muli v1001 c1_i32_941
  let v1003 : BitVec 32 := Scalar.addi c0_i32_942 v1002
  v1003.toNat
def k0_dev76 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_945 : BitVec 32 := 14#32
  let v1010 : BitVec 32 := Scalar.addi v2 c14_i32_945
  let c32_i32_946 : BitVec 32 := 32#32
  let v1011 : BitVec 32 := Scalar.remsi v1010 c32_i32_946
  let c1_i32_949 : BitVec 32 := 1#32
  let v1012 : BitVec 32 := Scalar.muli v1011 c1_i32_949
  let v1013 : BitVec 32 := Scalar.addi c0_i32_950 v1012
  v1013.toNat
def k0_dev77 (d0 : Dev nD) : Nat :=
  let c0_i32_958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_953 : BitVec 32 := 15#32
  let v1020 : BitVec 32 := Scalar.addi v2 c15_i32_953
  let c32_i32_954 : BitVec 32 := 32#32
  let v1021 : BitVec 32 := Scalar.remsi v1020 c32_i32_954
  let c1_i32_957 : BitVec 32 := 1#32
  let v1022 : BitVec 32 := Scalar.muli v1021 c1_i32_957
  let v1023 : BitVec 32 := Scalar.addi c0_i32_958 v1022
  v1023.toNat
def k0_dev78 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_961 : BitVec 32 := 16#32
  let v1030 : BitVec 32 := Scalar.addi v2 c16_i32_961
  let c32_i32_962 : BitVec 32 := 32#32
  let v1031 : BitVec 32 := Scalar.remsi v1030 c32_i32_962
  let c1_i32_965 : BitVec 32 := 1#32
  let v1032 : BitVec 32 := Scalar.muli v1031 c1_i32_965
  let v1033 : BitVec 32 := Scalar.addi c0_i32_966 v1032
  v1033.toNat
def k0_dev79 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_969 : BitVec 32 := 17#32
  let v1040 : BitVec 32 := Scalar.addi v2 c17_i32_969
  let c32_i32_970 : BitVec 32 := 32#32
  let v1041 : BitVec 32 := Scalar.remsi v1040 c32_i32_970
  let c1_i32_973 : BitVec 32 := 1#32
  let v1042 : BitVec 32 := Scalar.muli v1041 c1_i32_973
  let v1043 : BitVec 32 := Scalar.addi c0_i32_974 v1042
  v1043.toNat
def k0_dev80 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_977 : BitVec 32 := 18#32
  let v1050 : BitVec 32 := Scalar.addi v2 c18_i32_977
  let c32_i32_978 : BitVec 32 := 32#32
  let v1051 : BitVec 32 := Scalar.remsi v1050 c32_i32_978
  let c1_i32_981 : BitVec 32 := 1#32
  let v1052 : BitVec 32 := Scalar.muli v1051 c1_i32_981
  let v1053 : BitVec 32 := Scalar.addi c0_i32_982 v1052
  v1053.toNat
def k0_dev81 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_985 : BitVec 32 := 19#32
  let v1060 : BitVec 32 := Scalar.addi v2 c19_i32_985
  let c32_i32_986 : BitVec 32 := 32#32
  let v1061 : BitVec 32 := Scalar.remsi v1060 c32_i32_986
  let c1_i32_989 : BitVec 32 := 1#32
  let v1062 : BitVec 32 := Scalar.muli v1061 c1_i32_989
  let v1063 : BitVec 32 := Scalar.addi c0_i32_990 v1062
  v1063.toNat
def k0_dev82 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_993 : BitVec 32 := 20#32
  let v1070 : BitVec 32 := Scalar.addi v2 c20_i32_993
  let c32_i32_994 : BitVec 32 := 32#32
  let v1071 : BitVec 32 := Scalar.remsi v1070 c32_i32_994
  let c1_i32_997 : BitVec 32 := 1#32
  let v1072 : BitVec 32 := Scalar.muli v1071 c1_i32_997
  let v1073 : BitVec 32 := Scalar.addi c0_i32_998 v1072
  v1073.toNat
def k0_dev83 (d0 : Dev nD) : Nat :=
  let c0_i32_1006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1001 : BitVec 32 := 21#32
  let v1080 : BitVec 32 := Scalar.addi v2 c21_i32_1001
  let c32_i32_1002 : BitVec 32 := 32#32
  let v1081 : BitVec 32 := Scalar.remsi v1080 c32_i32_1002
  let c1_i32_1005 : BitVec 32 := 1#32
  let v1082 : BitVec 32 := Scalar.muli v1081 c1_i32_1005
  let v1083 : BitVec 32 := Scalar.addi c0_i32_1006 v1082
  v1083.toNat
def k0_dev84 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1009 : BitVec 32 := 22#32
  let v1090 : BitVec 32 := Scalar.addi v2 c22_i32_1009
  let c32_i32_1010 : BitVec 32 := 32#32
  let v1091 : BitVec 32 := Scalar.remsi v1090 c32_i32_1010
  let c1_i32_1013 : BitVec 32 := 1#32
  let v1092 : BitVec 32 := Scalar.muli v1091 c1_i32_1013
  let v1093 : BitVec 32 := Scalar.addi c0_i32_1014 v1092
  v1093.toNat
def k0_dev85 (d0 : Dev nD) : Nat :=
  let c0_i32_1022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1017 : BitVec 32 := 23#32
  let v1100 : BitVec 32 := Scalar.addi v2 c23_i32_1017
  let c32_i32_1018 : BitVec 32 := 32#32
  let v1101 : BitVec 32 := Scalar.remsi v1100 c32_i32_1018
  let c1_i32_1021 : BitVec 32 := 1#32
  let v1102 : BitVec 32 := Scalar.muli v1101 c1_i32_1021
  let v1103 : BitVec 32 := Scalar.addi c0_i32_1022 v1102
  v1103.toNat
def k0_dev86 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1025 : BitVec 32 := 24#32
  let v1110 : BitVec 32 := Scalar.addi v2 c24_i32_1025
  let c32_i32_1026 : BitVec 32 := 32#32
  let v1111 : BitVec 32 := Scalar.remsi v1110 c32_i32_1026
  let c1_i32_1029 : BitVec 32 := 1#32
  let v1112 : BitVec 32 := Scalar.muli v1111 c1_i32_1029
  let v1113 : BitVec 32 := Scalar.addi c0_i32_1030 v1112
  v1113.toNat
def k0_dev87 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1033 : BitVec 32 := 25#32
  let v1120 : BitVec 32 := Scalar.addi v2 c25_i32_1033
  let c32_i32_1034 : BitVec 32 := 32#32
  let v1121 : BitVec 32 := Scalar.remsi v1120 c32_i32_1034
  let c1_i32_1037 : BitVec 32 := 1#32
  let v1122 : BitVec 32 := Scalar.muli v1121 c1_i32_1037
  let v1123 : BitVec 32 := Scalar.addi c0_i32_1038 v1122
  v1123.toNat
def k0_dev88 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1041 : BitVec 32 := 26#32
  let v1130 : BitVec 32 := Scalar.addi v2 c26_i32_1041
  let c32_i32_1042 : BitVec 32 := 32#32
  let v1131 : BitVec 32 := Scalar.remsi v1130 c32_i32_1042
  let c1_i32_1045 : BitVec 32 := 1#32
  let v1132 : BitVec 32 := Scalar.muli v1131 c1_i32_1045
  let v1133 : BitVec 32 := Scalar.addi c0_i32_1046 v1132
  v1133.toNat
def k0_dev89 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1049 : BitVec 32 := 27#32
  let v1140 : BitVec 32 := Scalar.addi v2 c27_i32_1049
  let c32_i32_1050 : BitVec 32 := 32#32
  let v1141 : BitVec 32 := Scalar.remsi v1140 c32_i32_1050
  let c1_i32_1053 : BitVec 32 := 1#32
  let v1142 : BitVec 32 := Scalar.muli v1141 c1_i32_1053
  let v1143 : BitVec 32 := Scalar.addi c0_i32_1054 v1142
  v1143.toNat
def k0_dev90 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1057 : BitVec 32 := 28#32
  let v1150 : BitVec 32 := Scalar.addi v2 c28_i32_1057
  let c32_i32_1058 : BitVec 32 := 32#32
  let v1151 : BitVec 32 := Scalar.remsi v1150 c32_i32_1058
  let c1_i32_1061 : BitVec 32 := 1#32
  let v1152 : BitVec 32 := Scalar.muli v1151 c1_i32_1061
  let v1153 : BitVec 32 := Scalar.addi c0_i32_1062 v1152
  v1153.toNat
def k0_dev91 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1065 : BitVec 32 := 29#32
  let v1160 : BitVec 32 := Scalar.addi v2 c29_i32_1065
  let c32_i32_1066 : BitVec 32 := 32#32
  let v1161 : BitVec 32 := Scalar.remsi v1160 c32_i32_1066
  let c1_i32_1069 : BitVec 32 := 1#32
  let v1162 : BitVec 32 := Scalar.muli v1161 c1_i32_1069
  let v1163 : BitVec 32 := Scalar.addi c0_i32_1070 v1162
  v1163.toNat
def k0_dev92 (d0 : Dev nD) : Nat :=
  let c0_i32_1078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1073 : BitVec 32 := 30#32
  let v1170 : BitVec 32 := Scalar.addi v2 c30_i32_1073
  let c32_i32_1074 : BitVec 32 := 32#32
  let v1171 : BitVec 32 := Scalar.remsi v1170 c32_i32_1074
  let c1_i32_1077 : BitVec 32 := 1#32
  let v1172 : BitVec 32 := Scalar.muli v1171 c1_i32_1077
  let v1173 : BitVec 32 := Scalar.addi c0_i32_1078 v1172
  v1173.toNat
def k0_dev93 (d0 : Dev nD) : Nat :=
  let c0_i32_1086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1081 : BitVec 32 := 31#32
  let v1180 : BitVec 32 := Scalar.addi v2 c31_i32_1081
  let c32_i32_1082 : BitVec 32 := 32#32
  let v1181 : BitVec 32 := Scalar.remsi v1180 c32_i32_1082
  let c1_i32_1085 : BitVec 32 := 1#32
  let v1182 : BitVec 32 := Scalar.muli v1181 c1_i32_1085
  let v1183 : BitVec 32 := Scalar.addi c0_i32_1086 v1182
  v1183.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x768 : Shape := ⟨3, ![2, 256, 768]⟩
abbrev S768x16384 : Shape := ⟨2, ![768, 16384]⟩
abbrev S768x4096 : Shape := ⟨2, ![768, 4096]⟩
abbrev S16384x768 : Shape := ⟨2, ![16384, 768]⟩
abbrev S2x256x16384 : Shape := ⟨3, ![2, 256, 16384]⟩
abbrev S2x256x256x64 : Shape := ⟨4, ![2, 256, 256, 64]⟩
abbrev S2x256x4096 : Shape := ⟨3, ![2, 256, 4096]⟩
abbrev S2x256x64x64 : Shape := ⟨4, ![2, 256, 64, 64]⟩
abbrev S2x256x64x4x64 : Shape := ⟨5, ![2, 256, 64, 4, 64]⟩
abbrev S2x256x256x256 : Shape := ⟨4, ![2, 256, 256, 256]⟩
abbrev S_ : Shape := ⟨0, ![]⟩
abbrev S2x256x256 : Shape := ⟨3, ![2, 256, 256]⟩
abbrev S2x256x256x1 : Shape := ⟨4, ![2, 256, 256, 1]⟩
abbrev S2x256x64x256 : Shape := ⟨4, ![2, 256, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x16384, .bf16⟩
  | .hbm, ⟨2, _⟩ => ⟨S768x4096, .bf16⟩
  | .hbm, ⟨3, _⟩ => ⟨S768x4096, .bf16⟩
  | .hbm, ⟨4, _⟩ => ⟨S16384x768, .bf16⟩
  | .hbm, ⟨5, _⟩ => ⟨S2x256x768, .f32⟩
  | .hbm, ⟨6, _⟩ => ⟨S768x16384, .f32⟩
  | .hbm, ⟨7, _⟩ => ⟨S768x4096, .f32⟩
  | .hbm, ⟨8, _⟩ => ⟨S768x4096, .f32⟩
  | .hbm, ⟨9, _⟩ => ⟨S16384x768, .f32⟩
  | .hbm, ⟨10, _⟩ => ⟨S2x256x16384, .f32⟩
  | .hbm, ⟨11, _⟩ => ⟨S2x256x256x64, .f32⟩
  | .hbm, ⟨12, _⟩ => ⟨S2x256x4096, .f32⟩
  | .hbm, ⟨13, _⟩ => ⟨S2x256x64x64, .f32⟩
  | .hbm, ⟨14, _⟩ => ⟨S2x256x4096, .f32⟩
  | .hbm, ⟨15, _⟩ => ⟨S2x256x64x64, .f32⟩
  | .hbm, ⟨16, _⟩ => ⟨S2x256x64x4x64, .f32⟩
  | .hbm, ⟨17, _⟩ => ⟨S2x256x256x64, .f32⟩
  | .hbm, ⟨18, _⟩ => ⟨S2x256x64x4x64, .f32⟩
  | .hbm, ⟨19, _⟩ => ⟨S2x256x256x64, .f32⟩
  | .hbm, ⟨20, _⟩ => ⟨S2x256x256x256, .f32⟩
  | .hbm, ⟨21, _⟩ => ⟨S_, .f32⟩
  | .hbm, ⟨22, _⟩ => ⟨S2x256x256x256, .f32⟩
  | .hbm, ⟨23, _⟩ => ⟨S2x256x256x256, .f32⟩
  | .hbm, ⟨24, _⟩ => ⟨S_, .f32⟩
  | .hbm, ⟨25, _⟩ => ⟨S2x256x256, .f32⟩
  | .hbm, ⟨26, _⟩ => ⟨S2x256x256x1, .f32⟩
  | .hbm, ⟨27, _⟩ => ⟨S2x256x256x256, .f32⟩
  | .hbm, ⟨28, _⟩ => ⟨S2x256x256x256, .f32⟩
  | .hbm, ⟨29, _⟩ => ⟨S2x256x256x256, .f32⟩
  | .hbm, ⟨30, _⟩ => ⟨S_, .f32⟩
  | .hbm, ⟨31, _⟩ => ⟨S2x256x256, .f32⟩
  | .hbm, ⟨32, _⟩ => ⟨S2x256x256x1, .f32⟩
  | .hbm, ⟨33, _⟩ => ⟨S2x256x64x256, .f32⟩
  | .hbm, ⟨34, _⟩ => ⟨S2x256x256x64, .f32⟩
  | .hbm, ⟨35, _⟩ => ⟨S2x256x256x1, .f32⟩
  | .hbm, ⟨36, _⟩ => ⟨S2x256x256x64, .f32⟩
  | .hbm, ⟨37, _⟩ => ⟨S2x256x256x64, .f32⟩
  | .hbm, ⟨38, _⟩ => ⟨S2x256x16384, .f32⟩
  | .hbm, ⟨39, _⟩ => ⟨S2x256x768, .f32⟩
  | .hbm, ⟨40, _⟩ => ⟨S2x256x768, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.KernelIdeal.Protocol.lean ====
/-
The all-reduce among the 32 devices, as a protocol on semaphore cells.

Device `c` writes its partial product into 32 chunks of 16 rows.  It signals every other device's barrier cell, waits
for the 31 signals of the others, sends chunk `t` of its partial product to device `t` for every other `t` (the
scattering half), adds up what arrived, and sends its finished chunk to every other device (the gathering half).

This module names the devices, the memrefs, the cells, what each cell's landing hands over, and the schedule.

* barrier cell of `c`: 31 duties of one unit; duty `h` is paid by device `peer c h` and hands over slot `30 - h` of that
  device's landing buffer and the rows of chunk `c` of that device's result buffer;
* first-send cell `o` of `c`: hands back chunk `peer c o` of the operand;
* first-receive cell `h` of `c`: hands over slot `h` of the landing buffer holding chunk `c` of `peer c h`'s operand;
* second-send cell `o` of `c`: hands back a share of chunk `c` of the result;
* second-receive cell `h` of `c`: hands over chunk `peer c h` of the result buffer, holding the reduced rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra -/

/-- The ghost state: the pipeline library's and the protocol's (duty names `Fin 31`). -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Devices and distances -/

set_option backward.proofsInPublic true in
/-- The device at distance `o + 1` after `c` around the 32. -/
def peer (c : Dev nD) (o : Fin 31) : Dev nD := ⟨(c.val + o.val + 1) % 32, Nat.mod_lt _ (by decide)⟩

/-- The distance back. -/
def rev (o : Fin 31) : Fin 31 := ⟨30 - o.val, by omega⟩

theorem peer_val (c : Dev nD) (o : Fin 31) : (peer c o).val = (c.val + o.val + 1) % 32 := rfl

theorem rev_rev (o : Fin 31) : rev (rev o) = o := Fin.ext (by simp only [rev]; omega)

theorem peer_peer (c : Dev nD) (o : Fin 31) : peer (peer c o) (rev o) = c := by
  have hc : c.val < 32 := c.isLt
  have ho := o.isLt
  apply Fin.ext; simp only [peer, rev]; omega

theorem peer_ne (c : Dev nD) (o : Fin 31) : peer c o ≠ c := by
  have hc : c.val < 32 := c.isLt
  have ho := o.isLt
  intro h; have := congrArg Fin.val h; simp only [peer] at this; omega

theorem peer_inj (c : Dev nD) : Function.Injective (peer c) := by
  have hc : c.val < 32 := c.isLt
  intro o o' h
  have ho := o.isLt; have ho' := o'.isLt
  have := congrArg Fin.val h; simp only [peer] at this
  exact Fin.ext (by omega)

theorem peer_surj (c d : Dev nD) (h : d ≠ c) : ∃ o, peer c o = d := by
  have hc : c.val < 32 := c.isLt
  have hd : d.val < 32 := d.isLt
  have hv : d.val ≠ c.val := fun e => h (Fin.ext e)
  refine ⟨⟨(d.val + 31 - c.val) % 32, by omega⟩, Fin.ext ?_⟩
  simp only [peer]; omega

/-- Going to the device at a fixed distance permutes the devices. -/
def turn (o : Fin 31) : Dev nD ≃ Dev nD where
  toFun c := peer c o
  invFun c := peer c (rev o)
  left_inv c := peer_peer c o
  right_inv c := by
    have := peer_peer c (rev o); rwa [rev_rev] at this

/-- Reversing the distances permutes them. -/
def flip : Fin 31 ≃ Fin 31 := ⟨rev, rev, rev_rev, rev_rev⟩

/-! ## The memrefs -/

abbrev xM : Memref sig .tc .vmem S512x768 .bf16 := Memref.whole cc0_stg0_0
abbrev oM : Memref sig .tc .vmem S512x768 .bf16 := Memref.whole cc0_stg1_0
abbrev sM : Memref sig .tc .vmem S31x16x768 .bf16 := Memref.whole cc0_scratch0

theorem row_inb (d : Dev nD) : ∀ a, (![16 * d.val, 0] : Fin 2 → ℕ) a + S16x768.size a ≤ S512x768.size a := by
  revert d; decide

/-- The rows of chunk `d`. -/
abbrev rowR (d : Dev nD) : Rect S512x768 := Rect.unit (s := S512x768) ![16 * d.val, 0] S16x768.size (row_inb d)

theorem slot_inb (h : Fin 31) : ∀ a, (![h.val, 0, 0] : Fin 3 → ℕ) a + S1x16x768.size a ≤ S31x16x768.size a := by
  revert h; decide

/-- Slot `h` of the landing buffer. -/
abbrev slotR (h : Fin 31) : Rect S31x16x768 := Rect.unit (s := S31x16x768) ![h.val, 0, 0] S1x16x768.size (slot_inb h)

abbrev xRow (d : Dev nD) : Memref sig .tc .vmem S16x768 .bf16 := xM.slice (rowR d) (fun _ => rfl)
abbrev oRow (d : Dev nD) : Memref sig .tc .vmem S16x768 .bf16 := oM.slice (rowR d) (fun _ => rfl)
abbrev slotM (h : Fin 31) : Memref sig .tc .vmem S16x768 .bf16 :=
  (sM.slice (slotR h) (fun _ => rfl)).squeeze S16x768 squeezes_S1x16x768_S16x768

/-! ## The cells -/

/-- The runtime's barrier semaphore. -/
abbrev barS : Sem sig := (SemArray.scalar (sig.barrier 0 rfl) : Sems sig S_).sem

/-- DMA semaphore `o` of family `j`: 0 the first sends, 1 the first receives, 2 the second sends, 3 the second receives. -/
def fam (j : Fin 4) (o : Fin 31) : DmaSem sig := ⟨2 + 31 * j.val + o.val, by
  have := j.isLt; have := o.isLt
  show 2 + 31 * j.val + o.val < 126
  omega⟩

theorem fam_inj {j j' : Fin 4} {o o' : Fin 31} (h : fam j o = fam j' o') : j = j' ∧ o = o' := by
  have := congrArg Fin.val h
  have := o.isLt; have := o'.isLt
  simp only [fam] at *
  exact ⟨Fin.ext (by omega), Fin.ext (by omega)⟩

abbrev barCell (c : Dev nD) : GSem nD τ sig := ((c : Thread nD τ), .reg barS)
abbrev cell (j : Fin 4) (c : Dev nD) (o : Fin 31) : GSem nD τ sig := ((c : Thread nD τ), .dma (fam j o))

/-- One chunk's credit, whichever of the three buffers it lies in. -/
@[irreducible] def N : ℕ := (xRow 0).view.dmaCredit
theorem N_pos : 0 < N := by unfold N; exact View.dmaCredit_pos _ (by decide)
theorem credit_x (d : Dev nD) : (xRow d).view.dmaCredit = N := by unfold N; rfl
theorem credit_o (d : Dev nD) : (oRow d).view.dmaCredit = N := by unfold N; rfl
theorem credit_slot (h : Fin 31) : (slotM h).view.dmaCredit = N := by unfold N; rfl

/-! ## What the landings hand over -/

/-- The contents: each device's operand `X c`, and the reduced result `R`, the same on every device. -/
structure Contents (F : FTy → Type) where
  X : Dev nD → (cc0_stg0_0 : Ref sig .tc).ty.Contents (Elt F)
  R : (cc0_stg1_0 : Ref sig .tc).ty.Contents (Elt F)

variable (K : Contents F)

/-- Chunk `d` of `c`'s operand. -/
def chunk (c d : Dev nD) : S16x768.Idx → Elt F .bf16 := (xRow d).view.read (Elt F) (K.X c)

def xPts (c d : Dev nD) : sProp 𝕄 :=
  (xRow d).view.loc (c : Thread nD τ) ↦[(xRow d).view.set]{fullShare} K.X c
def oPts (c d : Dev nD) (q : PosShare TreeShare) (f : (cc0_stg1_0 : Ref sig .tc).ty.Contents (Elt F)) : sProp 𝕄 :=
  (oRow d).view.loc (c : Thread nD τ) ↦[(oRow d).view.set]{q} f
def sPts (c : Dev nD) (h : Fin 31) (f : (cc0_scratch0 : Ref sig .tc).ty.Contents (Elt F)) : sProp 𝕄 :=
  (slotM h).view.loc (c : Thread nD τ) ↦[(slotM h).view.set]{fullShare} f

/-- The chunk of the result that `c` reduces goes out in 31 shares. -/
abbrev share (o : Fin 31) : PosShare TreeShare := shareTok fullShare 31 o

def barPay (c : Dev nD) (h : Fin 31) : sProp 𝕄 :=
  iprop((∃ f, sPts (peer c h) (rev h) f) ∗ (∃ f, oPts (peer c h) c fullShare f)
    ∗ reached ER (cell 1 (peer c h) (rev h)) 0 ∗ reached ER (cell 3 (peer c h) (rev h)) 0)

/-- What the DMA cell `o` of family `j` hands over on device `c`. -/
def pay (j : Fin 4) (c : Dev nD) (o : Fin 31) : sProp 𝕄 := match j with
  | 0 => xPts K c (peer c o)
  | 1 => iprop(∃ f, ⌜(slotM o).view.read (Elt F) f = chunk K (peer c o) c⌝ ∗ sPts c o f)
  | 2 => oPts c c (share o) K.R
  | 3 => oPts c (peer c o) fullShare K.R

omit [FloatOps F] in
instance sPts_storable (c : Dev nD) (h : Fin 31) (f) : BI.Storable (upEmb : UEmb _ 𝕄) (sPts (F := F) c h f) := by
  unfold sPts; infer_instance
omit [FloatOps F] in
instance oPts_storable (c d : Dev nD) (q) (f) : BI.Storable (upEmb : UEmb _ 𝕄) (oPts (F := F) c d q f) := by
  unfold oPts; infer_instance
omit [FloatOps F] in
instance xPts_storable (c d : Dev nD) : BI.Storable (upEmb : UEmb _ 𝕄) (xPts K c d) := by
  unfold xPts; infer_instance
omit [FloatOps F] in
instance barPay_storable (c : Dev nD) (h : Fin 31) : BI.Storable (upEmb : UEmb _ 𝕄) (barPay (F := F) c h) := by
  unfold barPay; infer_instance
omit [FloatOps F] in
instance pay_storable (j : Fin 4) (c : Dev nD) (o : Fin 31) : BI.Storable (upEmb : UEmb _ 𝕄) (pay K j c o) := by
  unfold pay; split <;> infer_instance

/-! ## The schedule -/

/-- A DMA semaphore's family and number, and back. -/
def famOf (s : DmaSem sig) : Fin 4 := ⟨(s.val - 2) / 31 % 4, Nat.mod_lt _ (by decide)⟩
def numOf (s : DmaSem sig) : Fin 31 := ⟨(s.val - 2) % 31, Nat.mod_lt _ (by decide)⟩

theorem famOf_fam (j : Fin 4) (o : Fin 31) : famOf (fam j o) = j := by
  have := j.isLt; have := o.isLt
  apply Fin.ext; simp only [famOf, fam]; omega
theorem numOf_fam (j : Fin 4) (o : Fin 31) : numOf (fam j o) = o := by
  have := j.isLt; have := o.isLt
  apply Fin.ext; simp only [numOf, fam]; omega

/-- Round 0 only: a barrier cell has all 31 duties of one unit, a DMA cell of the protocol one duty of a chunk's credit. -/
def sched : Rounds.Schedule (GSem nD τ sig) (Fin 31) 𝕄 where
  duties g r := if r = 0 ∧ g.1.2 = .tc then
      (match g.2 with
        | .reg _ => Finset.univ
        | .dma s => if 2 ≤ s.val then {0} else ∅)
    else ∅
  unitless _ := False
  amount g _ _ := match g.2 with
    | .reg _ => 1
    | .dma _ => N
  payload g _ d := match g.2 with
    | .reg _ => barPay g.1.1 d
    | .dma s => pay K (famOf s) g.1.1 (numOf s)
  amount_pos g _ _ _ := by
    obtain ⟨t, s⟩ := g
    cases s
    · exact Nat.one_pos
    · exact N_pos

instance sched_storable (g : GSem nD τ sig) (r : ℕ) (d : Fin 31) :
    BI.Storable (upEmb : UEmb _ 𝕄) ((sched K).payload g r d) := by
  obtain ⟨t, s⟩ := g
  cases s with
  | reg s => exact barPay_storable t.1 d
  | dma s => exact pay_storable K (famOf s) t.1 (numOf s)

section Sched
variable (c : Dev nD) (j : Fin 4) (o : Fin 31)

omit [FloatOps F] in
theorem duties_bar : (sched K).duties (barCell c) 0 = Finset.univ := by
  dsimp only [sched]; exact if_pos ⟨rfl, rfl⟩
omit [FloatOps F] in
theorem duties_cell : (sched K).duties (cell j c o) 0 = {0} := by
  dsimp only [sched]
  refine (if_pos ⟨rfl, rfl⟩).trans (if_pos ?_)
  show 2 ≤ 2 + 31 * j.val + o.val
  omega
omit [FloatOps F] in
theorem duties_later (g : GSem nD τ sig) : ∀ r, 1 ≤ r → (sched K).duties g r = ∅ :=
  fun r hr => if_neg fun h => by omega
omit [FloatOps F] in
theorem amount_bar (d : Fin 31) : (sched K).amount (barCell c) 0 d = 1 := rfl
omit [FloatOps F] in
theorem amount_cell (d : Fin 31) : (sched K).amount (cell j c o) 0 d = N := rfl
omit [FloatOps F] in
theorem expect_bar : (sched K).expect (barCell c) 0 = 31 := by
  unfold Schedule.expect Schedule.amountOf
  rw [duties_bar, Finset.sum_congr rfl fun d _ => amount_bar K c d, Finset.sum_const, Finset.card_univ, Fintype.card_fin, smul_eq_mul]
omit [FloatOps F] in
theorem expect_cell : (sched K).expect (cell j c o) 0 = N := by
  unfold Schedule.expect Schedule.amountOf; rw [duties_cell, Finset.sum_singleton, amount_cell]
omit [FloatOps F] in
theorem payload_bar (d : Fin 31) : (sched K).payload (barCell c) 0 d = barPay c d := rfl
omit [FloatOps F] in
theorem payload_cell (d : Fin 31) : (sched K).payload (cell j c o) 0 d = pay K j c o := by
  show pay K (famOf (fam j o)) c (numOf (fam j o)) = _
  rw [famOf_fam, numOf_fam]
omit [FloatOps F] in
theorem rest_bar : bigSep ((sched K).duties (barCell c) 0 \ ∅) (fun d => (sched K).payload (barCell c) 0 d)
    = bigSep Finset.univ fun d => barPay (F := F) c d := by
  rw [Finset.sdiff_empty, duties_bar]; rfl
omit [FloatOps F] in
theorem rest_cell : bigSep ((sched K).duties (cell j c o) 0 \ ∅) (fun d => (sched K).payload (cell j c o) 0 d) = pay K j c o := by
  rw [Finset.sdiff_empty, duties_cell, bigSep_singleton, payload_cell]

end Sched

/-! ## Counting the 31 steps of a phase -/

/-- The steps still to come from step `k`, and the steps before step `k`. -/
def rem (k : ℕ) : Finset (Fin 31) := Finset.univ.filter fun o => k ≤ o.val
def done (k : ℕ) : Finset (Fin 31) := Finset.univ.filter fun o => o.val < k

theorem rem_step (o : Fin 31) : rem o.val = insert o (rem (o.val + 1)) := by
  ext x; simp only [rem, Finset.mem_filter, Finset.mem_univ, true_and, Finset.mem_insert, Fin.ext_iff]; omega
theorem not_mem_rem (o : Fin 31) : o ∉ rem (o.val + 1) := by
  simp only [rem, Finset.mem_filter, Finset.mem_univ, true_and]; omega
theorem done_step (o : Fin 31) : done (o.val + 1) = insert o (done o.val) := by
  ext x; simp only [done, Finset.mem_filter, Finset.mem_univ, true_and, Finset.mem_insert, Fin.ext_iff]; omega
theorem not_mem_done (o : Fin 31) : o ∉ done o.val := by
  simp only [done, Finset.mem_filter, Finset.mem_univ, true_and]; omega
theorem rem_zero : rem 0 = Finset.univ := by decide
theorem rem_all : rem 31 = ∅ := by decide
theorem done_zero : done 0 = ∅ := by decide
theorem done_all : done 31 = Finset.univ := by decide

omit [FloatOps F] in
theorem rem_peel (o : Fin 31) (Φ : Fin 31 → sProp 𝕄) : bigSep (rem o.val) Φ = iprop(Φ o ∗ bigSep (rem (o.val + 1)) Φ) := by
  rw [rem_step, bigSep_insert (not_mem_rem o)]; rfl
omit [FloatOps F] in
theorem done_peel (o : Fin 31) (Φ : Fin 31 → sProp 𝕄) : bigSep (done (o.val + 1)) Φ = iprop(Φ o ∗ bigSep (done o.val) Φ) := by
  rw [done_step, bigSep_insert (not_mem_done o)]; rfl

/-! ## What each device owes, and the levels -/

/-- Device `c` still owes: a unit to the barrier cells at distances from `b` on, a chunk's credit to the first-receive cells
    at distances from `a` on and to the second-receive cells at distances from `g` on. -/
def debt (c : Dev nD) (b a g : ℕ) : CellTallies nD τ sig Unit :=
  (∑ o ∈ rem b, tallyAt (barCell (peer c o)) () 1)
    + ((∑ o ∈ rem a, tallyAt (cell 1 (peer c o) (rev o)) () N) + ∑ o ∈ rem g, tallyAt (cell 3 (peer c o) (rev o)) () N)

theorem debt_bar (c : Dev nD) (o : Fin 31) (a g : ℕ) :
    debt c o.val a g = debt c (o.val + 1) a g + tallyAt (barCell (peer c o)) () 1 := by
  unfold debt; rw [rem_step, Finset.sum_insert (not_mem_rem o)]; ac_rfl
theorem debt_first (c : Dev nD) (o : Fin 31) (b g : ℕ) :
    debt c b o.val g = debt c b (o.val + 1) g + tallyAt (cell 1 (peer c o) (rev o)) () N := by
  unfold debt; rw [rem_step, Finset.sum_insert (not_mem_rem o)]; ac_rfl
theorem debt_second (c : Dev nD) (o : Fin 31) (b a : ℕ) :
    debt c b a o.val = debt c b a (o.val + 1) + tallyAt (cell 3 (peer c o) (rev o)) () N := by
  unfold debt; rw [rem_step, Finset.sum_insert (not_mem_rem o)]; ac_rfl
theorem debt_none (c : Dev nD) : debt c 31 31 31 = 0 := by
  unfold debt; rw [rem_all]; simp only [Finset.sum_empty, add_zero]

def L (g : GSem nD τ sig) : Finset Unit := if g.1.2 = .tc then {()} else ∅
/-- Barrier cells at 1, first receives at 2, second receives at 3, everything else at 0. -/
def lv (g : GSem nD τ sig) (_ : Unit) : ℕ := match g.2 with
  | .reg _ => 1
  | .dma s => if famOf s = 1 then 2 else if famOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (j : Fin 4) (c : Dev nD) (o : Fin 31) : lv (cell j c o) () = if j = 1 then 2 else if j = 3 then 3 else 0 := by
  show (if famOf (fam j o) = 1 then 2 else if famOf (fam j o) = 3 then 3 else 0) = _
  rw [famOf_fam]

theorem sum_pos {ι : Type} (s : Finset ι) (f : ι → CellTallies nD τ sig Unit) {g : GSem nD τ sig} {u : Unit}
    (h : 0 < (∑ i ∈ s, f i) g u) : ∃ i ∈ s, 0 < f i g u := by
  classical
  induction s using Finset.induction_on with
  | empty => exact absurd h (Nat.lt_irrefl 0)
  | insert i s hi ih =>
    rw [Finset.sum_insert hi, Pi.add_apply, Finsupp.add_apply] at h
    rcases Nat.add_pos_iff_pos_or_pos.mp h with h | h
    · exact ⟨i, Finset.mem_insert_self _ _, h⟩
    · obtain ⟨i', hi', h'⟩ := ih h
      exact ⟨i', Finset.mem_insert_of_mem hi', h'⟩

theorem tally_pos {g g' : GSem nD τ sig} {u : Unit} {k : ℕ} (h : 0 < tallyAt (Ix := Unit) g' () k g u) : g = g' := by
  rw [tallyAt_apply] at h
  by_contra hn
  rw [if_neg fun h' => hn h'.1] at h
  exact absurd h (Nat.lt_irrefl 0)

/-- A cell to which something is owed: which one, and that the phase has not passed it. -/
theorem debt_pos {c : Dev nD} {b a k : ℕ} {g : GSem nD τ sig} {u : Unit} (h : 0 < debt c b a k g u) :
    (∃ o ∈ rem b, g = barCell (peer c o)) ∨ (∃ o ∈ rem a, g = cell 1 (peer c o) (rev o)) ∨ ∃ o ∈ rem k, g = cell 3 (peer c o) (rev o) := by
  unfold debt at h
  rw [Pi.add_apply, Finsupp.add_apply, Pi.add_apply, Finsupp.add_apply] at h
  rcases Nat.add_pos_iff_pos_or_pos.mp h with h | h
  · obtain ⟨o, ho, h⟩ := sum_pos _ _ h
    exact .inl ⟨o, ho, tally_pos h⟩
  rcases Nat.add_pos_iff_pos_or_pos.mp h with h | h
  · obtain ⟨o, ho, h⟩ := sum_pos _ _ h
    exact .inr (.inl ⟨o, ho, tally_pos h⟩)
  · obtain ⟨o, ho, h⟩ := sum_pos _ _ h
    exact .inr (.inr ⟨o, ho, tally_pos h⟩)

/-- Every cell's level, as one named proposition. -/
@[irreducible] def levs : sProp 𝕄 := levAts L lv

omit [FloatOps F] in
instance levs_persistent : BI.Persistent (levs (F := F)) := by unfold levs; infer_instance

omit [FloatOps F] in
/-- Waiting on a cell below every cell something is owed to. -/
theorem mayWait (c : Dev nD) (sm : SemLoc sig) (O : CellTallies nD τ sig Unit) (n : ℕ) (hn : lv ((c : Thread nD τ), sm) () ≤ n)
    (hO : ∀ g u, 0 < O g u → g.1.2 = .tc ∧ n < lv g ()) :
    levs (F := F) ⊢ MayWait (c : Thread nD τ) sm () O := by
  unfold levs
  exact MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.AllReduce

end
-- ==== Proof.KernelIdeal.Steps.lean ====
/-
The steps of one device's run, one lemma for each kind of step.

Each lemma has a frame `P`: what the step does not touch.  A phase's state is a `bigSep` over the steps still to come
(`rem`) and one over the steps taken (`done`), so a phase of 31 steps is one lemma used 31 times.
-/
module

public import proofs.«01_k».proof.Proof.KernelIdeal.Protocol

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (K : Contents F) (κ : GSem nD τ sig → ℕ)

/-! ## What every device knows -/

/-- The cells' invariants under the names `κ`, and that the barrier cells have reached round 0. -/
def records : sProp 𝕄 :=
  iprop((bigSep Finset.univ fun c : Dev nD => iprop(cellInv ER (sched K) (κ (barCell c)) (barCell c) ∗ reached ER (barCell c) 0))
    ∗ bigSep Finset.univ fun p : Dev nD × (Fin 4 × Fin 31) => cellInv ER (sched K) (κ (cell p.2.1 p.1 p.2.2)) (cell p.2.1 p.1 p.2.2))

def env : sProp 𝕄 := iprop(records K κ ∗ levs)

omit [FloatOps F] in
instance records_persistent : BI.Persistent (records K κ) := by unfold records; infer_instance
omit [FloatOps F] in
instance env_persistent : BI.Persistent (env K κ) := by unfold env; infer_instance

omit [FloatOps F] in
theorem env_bar (c : Dev nD) : env K κ ⊢ iprop(cellInv ER (sched K) (κ (barCell c)) (barCell c) ∗ reached ER (barCell c) 0) := by
  unfold env records
  refine (sep_elim_left.trans sep_elim_left).trans ?_
  exact bigSep_elim (Finset.mem_univ c)

omit [FloatOps F] in
theorem env_cell (j : Fin 4) (c : Dev nD) (o : Fin 31) : env K κ ⊢ cellInv ER (sched K) (κ (cell j c o)) (cell j c o) := by
  unfold env records
  refine (sep_elim_left.trans sep_elim_right).trans ?_
  exact bigSep_elim (Φ := fun p : Dev nD × (Fin 4 × Fin 31) => cellInv ER (sched K) (κ (cell p.2.1 p.1 p.2.2)) (cell p.2.1 p.1 p.2.2))
    (Finset.mem_univ (c, (j, o)))

omit [FloatOps F] in
theorem env_lev : env K κ ⊢ levs (F := F) := by unfold env; exact sep_elim_right

/-! ## The states of the phases -/

/-- What `c` owes, whatever waits it has recorded. -/
def owing (c : Dev nD) (O : CellTallies nD τ sig Unit) : sProp 𝕄 := iprop(∃ W, owes (c : Thread nD τ) O W)

/-- What the signal at distance `o` uses up. -/
def sigPart (c : Dev nD) (o : Fin 31) : sProp 𝕄 :=
  iprop(dutyTok ER (barCell (peer c o)) 0 (rev o) ∗ (∃ f, sPts c o f) ∗ (∃ f, oPts c (peer c o) fullShare f)
    ∗ reached ER (cell 1 c o) 0 ∗ reached ER (cell 3 c o) 0)
/-- The duty tokens of a send at distance `o`: its own cell's of family `j` and its destination's of family `j'`. -/
def sendTok (j j' : Fin 4) (c : Dev nD) (o : Fin 31) : sProp 𝕄 :=
  iprop(dutyTok ER (cell j c o) 0 0 ∗ reached ER (cell j c o) 0 ∗ dutyTok ER (cell j' (peer c o) (rev o)) 0 0)
def firstPart (c : Dev nD) (o : Fin 31) : sProp 𝕄 :=
  iprop(sendTok 0 1 c o ∗ xPts K c (peer c o) ∗ (∃ f, sPts (peer c o) (rev o) f) ∗ reached ER (cell 1 (peer c o) (rev o)) 0)
def secondPart (c : Dev nD) (o : Fin 31) : sProp 𝕄 :=
  iprop(sendTok 2 3 c o ∗ oPts c c (share o) K.R ∗ (∃ f, oPts (peer c o) c fullShare f) ∗ reached ER (cell 3 (peer c o) (rev o)) 0)

def credOf (j : Fin 4) (c : Dev nD) (o : Fin 31) : sProp 𝕄 := cred (tallyAt (cell j c o) () N)
/-- What a wait on a cell needs and what it leaves. -/
def toWait (j : Fin 4) (c : Dev nD) (o : Fin 31) : sProp 𝕄 := iprop(credOf j c o ∗ atPos ER (cell j c o) 0 ∅ 0)
def waited (j : Fin 4) (c : Dev nD) (o : Fin 31) : sProp 𝕄 := iprop(atPos ER (cell j c o) 1 ∅ 0 ∗ pay K j c o)

def Signals (c : Dev nD) (k : ℕ) : sProp 𝕄 := iprop(owing c (debt c k 0 0) ∗ bigSep (rem k) (sigPart c))
def Firsts (c : Dev nD) (k : ℕ) : sProp 𝕄 :=
  iprop(owing c (debt c 31 k 0) ∗ bigSep (rem k) (firstPart K c) ∗ bigSep (done k) (credOf 0 c))
def Seconds (c : Dev nD) (k : ℕ) : sProp 𝕄 :=
  iprop(owing c (debt c 31 31 k) ∗ bigSep (rem k) (secondPart K c) ∗ bigSep (done k) (credOf 2 c))
def Waiting (j : Fin 4) (c : Dev nD) (O : CellTallies nD τ sig Unit) (A B : Finset (Fin 31)) : sProp 𝕄 :=
  iprop(owing c O ∗ bigSep A (toWait j c) ∗ bigSep B (waited K j c))

omit [FloatOps F] in
theorem peel {o : Fin 31} {A : Finset (Fin 31)} (h : o ∉ A) (Φ : Fin 31 → sProp 𝕄) :
    bigSep (insert o A) Φ = iprop(Φ o ∗ bigSep A Φ) := by
  rw [bigSep_insert h]; rfl

/-! ## The steps -/

/-- A signal to the device at distance `o`, with the two buffers' parts that device will write. -/
theorem step_signal {α : Type} {Q : α → sProp (MT nD τ sig Unit (Elt F) ℕ UU ℕ)} {P : sProp (MT nD τ sig Unit (Elt F) ℕ UU ℕ)}
    (c n : Dev nD) (o : Fin 31) (hn : n = peer c o) {m : ℤ} (hm : m = (1 : ℕ))
    {k : PUnit → Prog (TpuEff nD τ sig (Elt F) Λ₀ .tc) α}
    (h : iprop(env K κ ∗ Signals c (o.val + 1) ∗ P) ⊢ wp frame (wpE (defs₀ (F := F)) 𝒱₀ (c : Thread nD τ) none) Set.univ (k ⟨⟩) Q) :
    iprop(env K κ ∗ Signals c o.val ∗ P) ⊢ wp frame (wpE (defs₀ (F := F)) 𝒱₀ (c : Thread nD τ) none) Set.univ (.op (.semSignal (n : Thread nD τ) barS m) k) Q := by
  subst hn; subst hm
  unfold Signals owing
  rw [rem_peel]
  iintro ⟨#He, ⟨⟨%W, HO⟩, ⟨Hs, Hrest⟩⟩, HP⟩
  unfold sigPart
  icases Hs with ⟨Ht, Hsl, Hou, Hr1, Hr3⟩
  ihave Hb := (env_bar K κ (peer c o)) $$ He
  icases Hb with ⟨#HI, #Hr⟩
  iapply (Rounds.wp_signal 𝒱₀ ER (sched K) (c : Thread nD τ) none (dst := (peer c o : Thread nD τ)) (κ := κ (barCell (peer c o)))
      (d := rev o) (by rw [duties_bar]; exact Finset.mem_univ _) (amount_bar K (peer c o) (rev o)) () (debt c (o.val + 1) 0 0) (debt_bar c o 0 0))
    $$ [HO Ht Hsl Hou Hr1 Hr3]
  · isplitr; · iexact HI
    isplitl [HO]; · iexact HO
    isplitl [Ht]; · iexact Ht
    isplitl [Hsl Hou Hr1 Hr3]
    · rw [payload_bar]; unfold barPay; rw [peer_peer, rev_rev]
      isplitl [Hsl]; · iexact Hsl
      isplitl [Hou]; · iexact Hou
      isplitl [Hr1]; · iexact Hr1
      iexact Hr3
    · iexact Hr
  iintro HO
  iapply h
  unfold Signals owing
  isplitr; · iexact He
  isplitl [HO Hrest]
  · isplitl [HO]; · iexists W; iexact HO
    iexact Hrest
  iexact HP

theorem mem_rem_lt {k : ℕ} {o : Fin 31} (h : o ∈ rem k) : k < 31 := by
  have := (Finset.mem_filter.mp h).2
  omega

/-- Every cell something is owed to lies above level `n`, as far as the phases still to come go. -/
theorem debt_above (c : Dev nD) (b a k n : ℕ) (hb : 31 ≤ b ∨ n < 1) (ha : 31 ≤ a ∨ n < 2) (hk : 31 ≤ k ∨ n < 3) :
    ∀ g u, 0 < debt c b a k g u → g.1.2 = .tc ∧ n < lv g () := by
  intro g u h
  rcases debt_pos h with ⟨o, ho, rfl⟩ | ⟨o, ho, rfl⟩ | ⟨o, ho, rfl⟩
  · have := mem_rem_lt ho
    exact ⟨rfl, show n < 1 by omega⟩
  · have := mem_rem_lt ho
    refine ⟨rfl, ?_⟩
    rw [lv_cell, if_pos rfl]; omega
  · have := mem_rem_lt ho
    refine ⟨rfl, ?_⟩
    rw [lv_cell, if_neg (by decide), if_pos rfl]; omega

omit [FloatOps F] in
theorem env_mayWait (c : Dev nD) (sm : SemLoc sig) (b a k n : ℕ) (hs : lv ((c : Thread nD τ), sm) () ≤ n)
    (hb : 31 ≤ b ∨ n < 1) (ha : 31 ≤ a ∨ n < 2) (hk : 31 ≤ k ∨ n < 3) :
    env K κ ⊢ MayWait (c : Thread nD τ) sm () (debt c b a k) :=
  (env_lev K κ).trans (mayWait c sm (debt c b a k) n hs (debt_above c b a k n hb ha hk))

/-- The wait for the 31 signals, owing every chunk's credit. -/
theorem step_barrier {α : Type} {Q : α → sProp (MT nD τ sig Unit (Elt F) ℕ UU ℕ)} {P : sProp (MT nD τ sig Unit (Elt F) ℕ UU ℕ)}
    (c : Dev nD) {m : ℤ} (hm : m = (31 : ℕ))
    {k : PUnit → Prog (TpuEff nD τ sig (Elt F) Λ₀ .tc) α}
    (h : iprop(env K κ ∗ (owing c (debt c 31 0 0) ∗ bigSep Finset.univ (barPay (F := F) c) ∗ atPos ER (barCell c) 1 ∅ 0) ∗ P) ⊢ wp frame (wpE (defs₀ (F := F)) 𝒱₀ (c : Thread nD τ) none) Set.univ (k ⟨⟩) Q) :
    iprop(env K κ ∗ (Signals (F := F) c 31 ∗ cred (tallyAt (barCell c) () 31) ∗ atPos ER (barCell c) 0 ∅ 0) ∗ P) ⊢ wp frame (wpE (defs₀ (F := F)) 𝒱₀ (c : Thread nD τ) none) Set.univ (.op (.semWait barS m) k) Q := by
  subst hm
  unfold Signals owing
  rw [rem_all, bigSep_empty]
  iintro ⟨#He, ⟨⟨⟨%W, HO⟩, -⟩, Hc, Ha⟩, HP⟩
  ihave Hb := (env_bar K κ c) $$ He
  icases Hb with ⟨#HI, -⟩
  iapply (Rounds.wp_wait_rest_token 𝒱₀ ER (sched K) (c : Thread nD τ) none (κ := κ (barCell c))
      (wpE_semWait_eq 𝒱₀ (c : Thread nD τ) none Set.univ) (Set.mem_univ _) () (O := debt c 31 0 0) (W := W) (R := 0) (m := 0) (T := ∅)
      (by rw [expect_bar])) $$ [Hc HO Ha]
  · isplitr; · iexact HI
    isplitl [Hc]; · iexact Hc
    isplitl [HO]; · iexact HO
    isplitr
    · iapply (env_mayWait K κ c (.reg barS) 31 0 0 1 (le_refl _) (by omega) (by omega) (by omega))
      iexact He
    iexact Ha
  iintro ⟨HO, Ha, -, Hp⟩
  ihave Hp := (Entails.of_eq (rest_bar K c)) $$ Hp
  iapply h
  unfold owing
  isplitr; · iexact He
  isplitl [HO Ha Hp]
  · isplitl [HO]; · iexists _; iexact HO
    isplitl [Hp]; · iexact Hp
    iexact Ha
  iexact HP

/-- A wait on a cell of family `j`, owing only to cells above it. -/
theorem step_wait {α : Type} {Q : α → sProp (MT nD τ sig Unit (Elt F) ℕ UU ℕ)} {P : sProp (MT nD τ sig Unit (Elt F) ℕ UU ℕ)}
    (j : Fin 4) (c : Dev nD) (o : Fin 31) (s : DmaSem sig) (hs : s = fam j o) (b a g : ℕ) (n : ℕ)
    (hn : (if j = 1 then 2 else if j = 3 then 3 else 0) ≤ n)
    (hb : 31 ≤ b ∨ n < 1) (ha : 31 ≤ a ∨ n < 2) (hg : 31 ≤ g ∨ n < 3)
    {A B A' B' : Finset (Fin 31)} (hA : A = insert o A') (hA' : o ∉ A') (hB : B' = insert o B) (hB' : o ∉ B)
    {sp sp' : Space} {s₁ s₂ : Shape} {e₁ e₂ : EltTy} {src : Memref sig .tc sp' s₂ e₂} {dst : Memref sig .tc sp s₁ e₁}
    {hsrc : src.view.WordExact} {hdst : dst.view.WordExact} (hN : dst.view.dmaCredit = N)
    {k : PUnit → Prog (TpuEff nD τ sig (Elt F) Λ₀ .tc) α}
    (h : iprop(env K κ ∗ Waiting K j c (debt c b a g) A' B' ∗ P) ⊢ wp frame (wpE (defs₀ (F := F)) 𝒱₀ (c : Thread nD τ) none) Set.univ (k ⟨⟩) Q) :
    iprop(env K κ ∗ Waiting K j c (debt c b a g) A B ∗ P) ⊢ wp frame (wpE (defs₀ (F := F)) 𝒱₀ (c : Thread nD τ) none) Set.univ (.op (.waitDma2 s src dst hsrc hdst) k) Q := by
  subst hs; subst hA; subst hB
  unfold Waiting owing
  rw [peel hA']
  iintro ⟨#He, ⟨⟨%W, HO⟩, ⟨Ht, HA⟩, HB⟩, HP⟩
  ihave Ht := (Entails.of_eq (show toWait (F := F) j c o = iprop(cred (tallyAt (cell j c o) () N) ∗ atPos ER (cell j c o) 0 ∅ 0) from rfl)) $$ Ht
  icases Ht with ⟨Hc, Ha⟩
  ihave HI := (env_cell K κ j c o) $$ He
  rw [← hN]
  iapply (Rounds.wp_wait_rest_token 𝒱₀ ER (sched K) (c : Thread nD τ) none (κ := κ (cell j c o))
      (wpE_waitDma2_eq (src := src) (dst := dst) (hsrc := hsrc) (hdst := hdst) 𝒱₀ (c : Thread nD τ) none Set.univ) (Set.mem_univ _) ()
      (O := debt c b a g) (W := W) (R := 0) (m := 0) (T := ∅)
      (by rw [expect_cell, hN, Nat.zero_add])) $$ [Hc HO Ha HI]
  · isplitl [HI]; · iexact HI
    isplitl [Hc]; · iexact Hc
    isplitl [HO]; · iexact HO
    isplitr
    · iapply (env_mayWait K κ c (.dma (fam j o)) b a g n ((lv_cell j c o).trans_le hn) hb ha hg)
      iexact He
    iexact Ha
  iintro ⟨HO, Ha, -, Hp⟩
  ihave Hp := (Entails.of_eq (rest_cell K c j o)) $$ Hp
  iapply h
  unfold Waiting owing
  rw [peel hB']
  isplitr; · iexact He
  isplitr [HP]
  · isplitl [HO]; · iexists _; iexact HO
    isplitl [HA]; · iexact HA
    isplitr [HB]
    · unfold waited
      isplitl [Ha]; · iexact Ha
      iexact Hp
    iexact HB
  iexact HP

/-! ### The sends -/

/-- Rows written with what another view reads hold that, on the view's own elements. -/
theorem write_read_agree {s : Shape} {e : EltTy} {sp : Space} (v : View sig .tc sp s e) (f g : v.ty.Contents (Elt F)) :
    ∀ i ∈ v.set, v.write (Elt F) f (v.read (Elt F) g) Finset.univ i = g i := by
  intro i hi
  obtain ⟨j, -, rfl⟩ := Finset.mem_map.mp hi
  rw [View.write_emb_of_mem _ _ (Finset.mem_univ _), View.read_apply, cast_cast, cast_eq]

omit [FloatOps F] in
theorem first_back (c : Dev nD) (o : Fin 31) : xPts K c (peer c o) ⊢ (sched K).payload (cell 0 c o) 0 0 := by
  rw [payload_cell]; exact Entails.refl _

omit [FloatOps F] in
theorem first_land (c : Dev nD) (o : Fin 31) (fd : (cc0_scratch0 : Ref sig .tc).ty.Contents (Elt F)) :
    sPts (F := F) (peer c o) (rev o) ((slotM (rev o)).view.write (Elt F) fd (chunk K c (peer c o)) Finset.univ)
      ⊢ (sched K).payload (cell 1 (peer c o) (rev o)) 0 0 := by
  rw [payload_cell]
  show _ ⊢ iprop(∃ f, ⌜(slotM (rev o)).view.read (Elt F) f = chunk K (peer (peer c o) (rev o)) (peer c o)⌝ ∗ sPts (peer c o) (rev o) f)
  rw [peer_peer]
  iintro H
  iexists ((slotM (rev o)).view.write (Elt F) fd (chunk K c (peer c o)) Finset.univ)
  isplitr
  · ipureintro; exact View.read_write_univ _ _
  iexact H

/-- The rule for the send of chunk `peer c o` of the operand. -/
theorem send_first {α : Type} {Q : α → sProp (MT nD τ sig Unit (Elt F) ℕ UU ℕ)} (c : Dev nD) (o : Fin 31)
    {hsc} {hsrc : (xRow (peer c o)).view.WordExact} {hdst} {hsem}
    {k : PUnit → Prog (TpuEff nD τ sig (Elt F) Λ₀ .tc) α} (fd) (W : Waits sig Unit) :
    iprop(cellInv ER (sched K) (κ (cell 0 c o)) (cell 0 c o) ∗ cellInv ER (sched K) (κ (cell 1 (peer c o) (rev o))) (cell 1 (peer c o) (rev o))
        ∗ xPts K c (peer c o) ∗ sPts (F := F) (peer c o) (rev o) fd
        ∗ owes (c : Thread nD τ) (debt c 31 o.val 0) W
        ∗ dutyTok ER (cell 0 c o) 0 0 ∗ reached ER (cell 0 c o) 0
        ∗ dutyTok ER (cell 1 (peer c o) (rev o)) 0 0 ∗ reached ER (cell 1 (peer c o) (rev o)) 0)
      ⊢ iprop(((cred (tallyAt (cell 0 c o) () N) ∗ owes (c : Thread nD τ) (debt c 31 (o.val + 1) 0) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xRow (peer c o)) (.remote (Dev.tc (peer c o) : Thread nD τ) (slotM (rev o)) (.dma (fam 0 o)) hsc)
              (.dma (fam 1 (rev o))) hsrc hdst hsem) k) Q) :=
  Rounds.wp_send_pointsTo 𝒱₀ ER (sched K) (c : Thread nD τ) none (κ₁ := κ (cell 0 c o)) (κ₂ := κ (cell 1 (peer c o) (rev o)))
    (c' := (peer c o : Thread nD τ)) (src := xRow (peer c o)) (dst := slotM (rev o)) (sS := .dma (fam 0 o)) (sem := .dma (fam 1 (rev o))) (r₁ := 0) (r₂ := 0) (d₁ := 0) (d₂ := 0) (fd := fd)
    (by rw [duties_cell]; exact Finset.mem_singleton_self _) (by rw [duties_cell]; exact Finset.mem_singleton_self _)
    () () N (credit_slot (rev o)) (amount_cell K c 0 o 0) (amount_cell K (peer c o) 1 (rev o) 0) (debt c 31 (o.val + 1) 0) (debt_first c o 31 0) (W := W)
    (first_back K c o) (first_land K c o fd)

omit [FloatOps F] in
theorem second_back (c : Dev nD) (o : Fin 31) : oPts (F := F) c c (share o) K.R ⊢ (sched K).payload (cell 2 c o) 0 0 := by
  rw [payload_cell]; exact Entails.refl _

theorem second_land (c : Dev nD) (o : Fin 31) (fd : (cc0_stg1_0 : Ref sig .tc).ty.Contents (Elt F)) :
    oPts (F := F) (peer c o) c fullShare ((oRow c).view.write (Elt F) fd ((oRow c).view.read (Elt F) K.R) Finset.univ)
      ⊢ (sched K).payload (cell 3 (peer c o) (rev o)) 0 0 := by
  rw [payload_cell]
  show _ ⊢ oPts (peer c o) (peer (peer c o) (rev o)) fullShare K.R
  rw [peer_peer]
  unfold oPts
  exact Entails.of_eq (pointsTo_congr (write_read_agree (oRow c).view fd K.R))

/-- The rule for the send of the finished chunk. -/
theorem send_second {α : Type} {Q : α → sProp (MT nD τ sig Unit (Elt F) ℕ UU ℕ)} (c : Dev nD) (o : Fin 31)
    {hsc} {hsrc : (oRow c).view.WordExact} {hdst} {hsem}
    {k : PUnit → Prog (TpuEff nD τ sig (Elt F) Λ₀ .tc) α} (fd) (W : Waits sig Unit) :
    iprop(cellInv ER (sched K) (κ (cell 2 c o)) (cell 2 c o) ∗ cellInv ER (sched K) (κ (cell 3 (peer c o) (rev o))) (cell 3 (peer c o) (rev o))
        ∗ oPts (F := F) c c (share o) K.R ∗ oPts (F := F) (peer c o) c fullShare fd
        ∗ owes (c : Thread nD τ) (debt c 31 31 o.val) W
        ∗ dutyTok ER (cell 2 c o) 0 0 ∗ reached ER (cell 2 c o) 0
        ∗ dutyTok ER (cell 3 (peer c o) (rev o)) 0 0 ∗ reached ER (cell 3 (peer c o) (rev o)) 0)
      ⊢ iprop(((cred (tallyAt (cell 2 c o) () N) ∗ owes (c : Thread nD τ) (debt c 31 31 (o.val + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (oRow c) (.remote (Dev.tc (peer c o) : Thread nD τ) (oRow c) (.dma (fam 2 o)) hsc)
              (.dma (fam 3 (rev o))) hsrc hdst hsem) k) Q) :=
  Rounds.wp_send_pointsTo 𝒱₀ ER (sched K) (c : Thread nD τ) none (κ₁ := κ (cell 2 c o)) (κ₂ := κ (cell 3 (peer c o) (rev o)))
    (c' := (peer c o : Thread nD τ)) (src := oRow c) (dst := oRow c) (sS := .dma (fam 2 o)) (sem := .dma (fam 3 (rev o))) (r₁ := 0) (r₂ := 0) (d₁ := 0) (d₂ := 0) (fd := fd)
    (by rw [duties_cell]; exact Finset.mem_singleton_self _) (by rw [duties_cell]; exact Finset.mem_singleton_self _)
    () () N (credit_o c) (amount_cell K c 2 o 0) (amount_cell K (peer c o) 3 (rev o) 0) (debt c 31 31 (o.val + 1)) (debt_second c o 31 31) (W := W)
    (second_back K c o) (second_land K c o fd)

/-- Chunk `peer c o` of the operand goes to slot `30 - o` of that device's landing buffer. -/
theorem step_first {α : Type} {Q : α → sProp (MT nD τ sig Unit (Elt F) ℕ UU ℕ)} {P : sProp (MT nD τ sig Unit (Elt F) ℕ UU ℕ)}
    (c n : Dev nD) (o : Fin 31) (hn : n = peer c o)
    (off : Fin 2 → ℕ) (hoff : off = ![16 * (peer c o).val, 0]) (inb : ∀ a, off a + S16x768.size a ≤ S512x768.size a)
    (soff : Fin 3 → ℕ) (hsoff : soff = ![(rev o).val, 0, 0]) (sinb : ∀ a, soff a + S1x16x768.size a ≤ S31x16x768.size a)
    (sS sR : DmaSem sig) (hsS : sS = fam 0 o) (hsR : sR = fam 1 (rev o))
    {hsc hsrc hdst hsem}
    {k : PUnit → Prog (TpuEff nD τ sig (Elt F) Λ₀ .tc) α}
    (h : iprop(env K κ ∗ Firsts K c (o.val + 1) ∗ P) ⊢ wp frame (wpE (defs₀ (F := F)) 𝒱₀ (c : Thread nD τ) none) Set.univ (k ⟨⟩) Q) :
    iprop(env K κ ∗ Firsts K c o.val ∗ P) ⊢ wp frame (wpE (defs₀ (F := F)) 𝒱₀ (c : Thread nD τ) none) Set.univ (.op (.enqueueDma
      (xM.slice (Rect.unit (s := S512x768) off S16x768.size inb) (fun _ => rfl))
      (.remote (Dev.tc n : Thread nD τ)
        ((sM.slice (Rect.unit (s := S31x16x768) soff S1x16x768.size sinb) (fun _ => rfl)).squeeze S16x768 squeezes_S1x16x768_S16x768)
        (.dma sS) hsc) (.dma sR) hsrc hdst hsem) k) Q := by
  subst hn; subst hoff; subst hsoff; subst hsS; subst hsR
  unfold Firsts owing
  rw [rem_peel]
  iintro ⟨#He, ⟨⟨%W, HO⟩, ⟨Hs, Hrest⟩, Hdone⟩, HP⟩
  unfold firstPart sendTok
  icases Hs with ⟨⟨Ht1, Hr1, Ht2⟩, Hx, ⟨%fd, Hd⟩, Hr2⟩
  ihave HI1 := (env_cell K κ 0 c o) $$ He
  ihave HI2 := (env_cell K κ 1 (peer c o) (rev o)) $$ He
  iapply (send_first K κ c o fd W) $$ [HI1 HI2 Hx Hd HO Ht1 Hr1 Ht2 Hr2]
  · isplitl [HI1]; · iexact HI1
    isplitl [HI2]; · iexact HI2
    isplitl [Hx]; · iexact Hx
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply h
  unfold Firsts owing
  rw [done_peel]
  isplitr; · iexact He
  isplitr [HP]
  · isplitl [HO]; · iexists W; iexact HO
    isplitl [Hrest]; · iexact Hrest
    isplitl [Hc]; · unfold credOf; iexact Hc
    iexact Hdone
  iexact HP

/-- The finished chunk goes to the same rows of device `peer c o`'s result. -/
theorem step_second {α : Type} {Q : α → sProp (MT nD τ sig Unit (Elt F) ℕ UU ℕ)} {P : sProp (MT nD τ sig Unit (Elt F) ℕ UU ℕ)}
    (c n : Dev nD) (o : Fin 31) (hn : n = peer c o)
    (off : Fin 2 → ℕ) (hoff : off = ![16 * c.val, 0]) (inb inb' : ∀ a, off a + S16x768.size a ≤ S512x768.size a)
    (sS sR : DmaSem sig) (hsS : sS = fam 2 o) (hsR : sR = fam 3 (rev o))
    {hsc hsrc hdst hsem}
    {k : PUnit → Prog (TpuEff nD τ sig (Elt F) Λ₀ .tc) α}
    (h : iprop(env K κ ∗ Seconds K c (o.val + 1) ∗ P) ⊢ wp frame (wpE (defs₀ (F := F)) 𝒱₀ (c : Thread nD τ) none) Set.univ (k ⟨⟩) Q) :
    iprop(env K κ ∗ Seconds K c o.val ∗ P) ⊢ wp frame (wpE (defs₀ (F := F)) 𝒱₀ (c : Thread nD τ) none) Set.univ (.op (.enqueueDma
      (oM.slice (Rect.unit (s := S512x768) off S16x768.size inb) (fun _ => rfl))
      (.remote (Dev.tc n : Thread nD τ)
        (oM.slice (Rect.unit (s := S512x768) off S16x768.size inb') (fun _ => rfl))
        (.dma sS) hsc) (.dma sR) hsrc hdst hsem) k) Q := by
  subst hn; subst hoff; subst hsS; subst hsR
  unfold Seconds owing
  rw [rem_peel]
  iintro ⟨#He, ⟨⟨%W, HO⟩, ⟨Hs, Hrest⟩, Hdone⟩, HP⟩
  unfold secondPart sendTok
  icases Hs with ⟨⟨Ht1, Hr1, Ht2⟩, Hx, ⟨%fd, Hd⟩, Hr2⟩
  ihave HI1 := (env_cell K κ 2 c o) $$ He
  ihave HI2 := (env_cell K κ 3 (peer c o) (rev o)) $$ He
  iapply (send_second K κ c o fd W) $$ [HI1 HI2 Hx Hd HO Ht1 Hr1 Ht2 Hr2]
  · isplitl [HI1]; · iexact HI1
    isplitl [HI2]; · iexact HI2
    isplitl [Hx]; · iexact Hx
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply h
  unfold Seconds owing
  rw [done_peel]
  isplitr; · iexact He
  isplitr [HP]
  · isplitl [HO]; · iexists W; iexact HO
    isplitl [Hrest]; · iexact Hrest
    isplitl [Hc]; · unfold credOf; iexact Hc
    iexact Hdone
  iexact HP

/-! ### The loads and the store -/

/-- What a load of the device's own rows reads, and of a landed slot. -/
def ownVal (c : Dev nD) : Vec F S16x768 .bf16 := chunk K c c
def slotVal (c : Dev nD) (o : Fin 31) : Vec F S1x16x768 .bf16 :=
  fun i => chunk K (peer c o) c ((Shape.reshapeEquiv (s := S1x16x768) (s' := S16x768) (Shape.Squeezes.numel_eq squeezes_S1x16x768_S16x768)).symm i)

omit [FloatOps F] in
theorem slot_read (c : Dev nD) (o : Fin 31) (f : (cc0_scratch0 : Ref sig .tc).ty.Contents (Elt F))
    (hf : (slotM o).view.read (Elt F) f = chunk K (peer c o) c) : (sM.access (slotR o)).read (Elt F) f = slotVal K c o := by
  funext i
  unfold slotVal
  rw [← hf]
  show _ = (sM.access (slotR o)).read (Elt F) f (Shape.reshapeEquiv _ ((Shape.reshapeEquiv _).symm i))
  rw [Equiv.apply_symm_apply]

/-- The load of the device's own rows of its operand. -/
theorem step_own {α : Type} {Q : α → sProp (MT nD τ sig Unit (Elt F) ℕ UU ℕ)} {P : sProp (MT nD τ sig Unit (Elt F) ℕ UU ℕ)} (c : Dev nD)
    (off : Fin 2 → ℕ) (hoff : off = ![16 * c.val, 0]) (inb : ∀ a, off a + S16x768.size a ≤ S512x768.size a) {hl}
    {k : (S16x768.Idx → Elt F .bf16) → Prog (TpuEff nD τ sig (Elt F) Λ₀ .tc) α}
    (h : iprop(env K κ ∗ xPts K c c ∗ P) ⊢ wp frame (wpE (defs₀ (F := F)) 𝒱₀ (c : Thread nD τ) none) Set.univ (k (ownVal K c)) Q) :
    iprop(env K κ ∗ xPts K c c ∗ P) ⊢ wp frame (wpE (defs₀ (F := F)) 𝒱₀ (c : Thread nD τ) none) Set.univ (.op (.load xM (Rect.unit (s := S512x768) off S16x768.size inb).toLoadRect hl) k) Q := by
  subst hoff
  iintro ⟨#He, Hx, HP⟩
  unfold xPts
  iapply (wp_load_rect 𝒱₀ (c : Thread nD τ) none Set.univ (m := xM) (r := rowR c) (S := (xRow c).view.set) (f := K.X c) (Finset.Subset.refl _)) $$ Hx
  iintro Hx
  iapply h
  unfold xPts
  isplitr; · iexact He
  isplitl [Hx]; · iexact Hx
  iexact HP

/-- The load of a landed slot. -/
theorem step_slot {α : Type} {Q : α → sProp (MT nD τ sig Unit (Elt F) ℕ UU ℕ)} {P : sProp (MT nD τ sig Unit (Elt F) ℕ UU ℕ)} (c : Dev nD) (o : Fin 31)
    (soff : Fin 3 → ℕ) (hsoff : soff = ![o.val, 0, 0]) (sinb : ∀ a, soff a + S1x16x768.size a ≤ S31x16x768.size a) {hl}
    {O : CellTallies nD τ sig Unit} {A B : Finset (Fin 31)} (ho : o ∈ B)
    {k : (S1x16x768.Idx → Elt F .bf16) → Prog (TpuEff nD τ sig (Elt F) Λ₀ .tc) α}
    (h : iprop(env K κ ∗ Waiting K 1 c O A B ∗ P) ⊢ wp frame (wpE (defs₀ (F := F)) 𝒱₀ (c : Thread nD τ) none) Set.univ (k (slotVal K c o)) Q) :
    iprop(env K κ ∗ Waiting K 1 c O A B ∗ P) ⊢ wp frame (wpE (defs₀ (F := F)) 𝒱₀ (c : Thread nD τ) none) Set.univ (.op (.load sM (Rect.unit (s := S31x16x768) soff S1x16x768.size sinb).toLoadRect hl) k) Q := by
  subst hsoff
  unfold Waiting at h ⊢
  have hB : bigSep B (waited K 1 c) = iprop(waited K 1 c o ∗ bigSep (B.erase o) (waited K 1 c)) := bigSep_erase ho
  rw [hB] at h ⊢
  iintro ⟨#He, ⟨HO, HA, Hw, HB⟩, HP⟩
  ihave Hw := (Entails.of_eq (show waited K 1 c o = iprop(atPos ER (cell 1 c o) 1 ∅ 0
    ∗ ∃ f, ⌜(slotM o).view.read (Elt F) f = chunk K (peer c o) c⌝ ∗ sPts c o f) from rfl)) $$ Hw
  icases Hw with ⟨Ha, %f, %hf, Hs⟩
  unfold sPts
  iapply (wp_load_rect 𝒱₀ (c : Thread nD τ) none Set.univ (m := sM) (r := slotR o) (S := (slotM o).view.set) (f := f)
    (View.set_reshape _ _).symm.subset) $$ Hs
  iintro Hs
  rw [slot_read K c o f hf]
  iapply h
  isplitr; · iexact He
  isplitr [HP]
  · isplitl [HO]; · iexact HO
    isplitl [HA]; · iexact HA
    isplitl [Ha Hs]
    · iapply (Entails.of_eq (show iprop(atPos ER (cell 1 c o) 1 ∅ 0
        ∗ ∃ f, ⌜(slotM o).view.read (Elt F) f = chunk K (peer c o) c⌝ ∗ sPts c o f) = waited K 1 c o from rfl))
      isplitl [Ha]; · iexact Ha
      iexists f
      isplitr; · ipureintro; exact hf
      unfold sPts
      iexact Hs
    iexact HB
  iexact HP

/-- The load of the result's rows before they are written; its value is not used. -/
theorem step_look {α : Type} {Q : α → sProp (MT nD τ sig Unit (Elt F) ℕ UU ℕ)} {P : sProp (MT nD τ sig Unit (Elt F) ℕ UU ℕ)} (c : Dev nD)
    (off : Fin 2 → ℕ) (hoff : off = ![16 * c.val, 0]) (inb : ∀ a, off a + S16x768.size a ≤ S512x768.size a) {hl}
    {k : (S16x768.Idx → Elt F .bf16) → Prog (TpuEff nD τ sig (Elt F) Λ₀ .tc) α}
    (h : ∀ v, iprop(env K κ ∗ (∃ f, oPts c c fullShare f) ∗ P) ⊢ wp frame (wpE (defs₀ (F := F)) 𝒱₀ (c : Thread nD τ) none) Set.univ (k v) Q) :
    iprop(env K κ ∗ (∃ f, oPts c c fullShare f) ∗ P) ⊢ wp frame (wpE (defs₀ (F := F)) 𝒱₀ (c : Thread nD τ) none) Set.univ (.op (.load oM (Rect.unit (s := S512x768) off S16x768.size inb).toLoadRect hl) k) Q := by
  subst hoff
  iintro ⟨#He, ⟨%f, Hx⟩, HP⟩
  unfold oPts
  iapply (wp_load_rect 𝒱₀ (c : Thread nD τ) none Set.univ (m := oM) (r := rowR c) (S := (oRow c).view.set) (f := f) (Finset.Subset.refl _)) $$ Hx
  iintro Hx
  iapply (h _)
  unfold oPts
  isplitr; · iexact He
  isplitl [Hx]; · iexists f; iexact Hx
  iexact HP

/-- The store of the finished chunk. -/
theorem step_store {α : Type} {Q : α → sProp (MT nD τ sig Unit (Elt F) ℕ UU ℕ)} {P : sProp (MT nD τ sig Unit (Elt F) ℕ UU ℕ)} (c : Dev nD)
    (off : Fin 2 → ℕ) (hoff : off = ![16 * c.val, 0]) (inb : ∀ a, off a + S16x768.size a ≤ S512x768.size a) {hx hm}
    (w : S16x768.Idx → Elt F .bf16) (hw : (oRow c).view.read (Elt F) K.R = w)
    {k : PUnit → Prog (TpuEff nD τ sig (Elt F) Λ₀ .tc) α}
    (h : iprop(env K κ ∗ oPts c c fullShare K.R ∗ P) ⊢ wp frame (wpE (defs₀ (F := F)) 𝒱₀ (c : Thread nD τ) none) Set.univ (k ⟨⟩) Q) :
    iprop(env K κ ∗ (∃ f, oPts c c fullShare f) ∗ P) ⊢ wp frame (wpE (defs₀ (F := F)) 𝒱₀ (c : Thread nD τ) none) Set.univ (.op (.store oM (Rect.unit (s := S512x768) off S16x768.size inb) w Finset.univ hx hm) k) Q := by
  subst hoff; subst hw
  iintro ⟨#He, ⟨%f, Hx⟩, HP⟩
  unfold oPts
  iapply (wp_store 𝒱₀ (c : Thread nD τ) none Set.univ (m := oM) (r := rowR c) (Mk := Finset.univ) (S := (oRow c).view.set) (f := f) (Finset.Subset.refl _)) $$ Hx
  iintro Hx
  iapply h
  isplitr; · iexact He
  isplitl [Hx]
  · unfold oPts
    iapply (Entails.of_eq (pointsTo_congr (write_read_agree (oRow c).view f K.R)))
    iexact Hx
  iexact HP

/-! ### Waits in order, and the program's pieces -/

/-- A phase of waits in increasing order, at step `k`; and in decreasing order, with `k` still to come. -/
def WaitUp (j : Fin 4) (c : Dev nD) (O : CellTallies nD τ sig Unit) (k : ℕ) : sProp 𝕄 := Waiting K j c O (rem k) (done k)
def WaitDown (j : Fin 4) (c : Dev nD) (O : CellTallies nD τ sig Unit) (k : ℕ) : sProp 𝕄 := Waiting K j c O (done k) (rem k)

theorem step_up {α : Type} {Q : α → sProp (MT nD τ sig Unit (Elt F) ℕ UU ℕ)} {P : sProp (MT nD τ sig Unit (Elt F) ℕ UU ℕ)}
    (j : Fin 4) (c : Dev nD) (o : Fin 31) (n : ℕ)
    (hn : (if j = 1 then 2 else if j = 3 then 3 else 0) ≤ n)
    {sp sp' : Space} {s₁ s₂ : Shape} {e₁ e₂ : EltTy} {src : Memref sig .tc sp' s₂ e₂} {dst : Memref sig .tc sp s₁ e₁}
    {hsrc : src.view.WordExact} {hdst : dst.view.WordExact} (hN : dst.view.dmaCredit = N)
    {s : DmaSem sig} (hs : s = fam j o)
    {k : PUnit → Prog (TpuEff nD τ sig (Elt F) Λ₀ .tc) α}
    (h : iprop(env K κ ∗ WaitUp K j c (debt c 31 31 31) (o.val + 1) ∗ P)
      ⊢ wp frame (wpE (defs₀ (F := F)) 𝒱₀ (c : Thread nD τ) none) Set.univ (k ⟨⟩) Q) :
    iprop(env K κ ∗ WaitUp K j c (debt c 31 31 31) o.val ∗ P)
      ⊢ wp frame (wpE (defs₀ (F := F)) 𝒱₀ (c : Thread nD τ) none) Set.univ (.op (.waitDma2 s src dst hsrc hdst) k) Q :=
  step_wait K κ j c o s hs 31 31 31 n hn (.inl (le_refl _)) (.inl (le_refl _)) (.inl (le_refl _))
    (rem_step o) (not_mem_rem o) (done_step o) (not_mem_done o) hN h

/-- The waits for the chunks, still owing every finished chunk. -/
theorem step_down {α : Type} {Q : α → sProp (MT nD τ sig Unit (Elt F) ℕ UU ℕ)} {P : sProp (MT nD τ sig Unit (Elt F) ℕ UU ℕ)}
    (c : Dev nD) (o : Fin 31)
    {sp sp' : Space} {s₁ s₂ : Shape} {e₁ e₂ : EltTy} {src : Memref sig .tc sp' s₂ e₂} {dst : Memref sig .tc sp s₁ e₁}
    {hsrc : src.view.WordExact} {hdst : dst.view.WordExact} (hN : dst.view.dmaCredit = N)
    {s : DmaSem sig} (hs : s = fam 1 o)
    {k : PUnit → Prog (TpuEff nD τ sig (Elt F) Λ₀ .tc) α}
    (h : iprop(env K κ ∗ WaitDown K 1 c (debt c 31 31 0) o.val ∗ P)
      ⊢ wp frame (wpE (defs₀ (F := F)) 𝒱₀ (c : Thread nD τ) none) Set.univ (k ⟨⟩) Q) :
    iprop(env K κ ∗ WaitDown K 1 c (debt c 31 31 0) (o.val + 1) ∗ P)
      ⊢ wp frame (wpE (defs₀ (F := F)) 𝒱₀ (c : Thread nD τ) none) Set.univ (.op (.waitDma2 s src dst hsrc hdst) k) Q :=
  step_wait K κ 1 c o s hs 31 31 0 2 (le_refl _) (.inl (le_refl _)) (.inl (le_refl _)) (.inr (by omega))
    (done_step o) (not_mem_done o) (rem_step o) (not_mem_rem o) hN h

/-- The load of a slot that has landed. -/
theorem step_landed {α : Type} {Q : α → sProp (MT nD τ sig Unit (Elt F) ℕ UU ℕ)} {P : sProp (MT nD τ sig Unit (Elt F) ℕ UU ℕ)}
    (c : Dev nD) (o : Fin 31) {b : ℕ} (hb : b ≤ o.val)
    {soff : Fin 3 → ℕ} {sinb : ∀ a, soff a + S1x16x768.size a ≤ S31x16x768.size a} {hl}
    (hsoff : soff = ![o.val, 0, 0])
    {k : (S1x16x768.Idx → Elt F .bf16) → Prog (TpuEff nD τ sig (Elt F) Λ₀ .tc) α}
    (h : iprop(env K κ ∗ WaitDown K 1 c (debt c 31 31 0) b ∗ P)
      ⊢ wp frame (wpE (defs₀ (F := F)) 𝒱₀ (c : Thread nD τ) none) Set.univ (k (slotVal K c o)) Q) :
    iprop(env K κ ∗ WaitDown K 1 c (debt c 31 31 0) b ∗ P)
      ⊢ wp frame (wpE (defs₀ (F := F)) 𝒱₀ (c : Thread nD τ) none) Set.univ
        (.op (.load sM (Rect.unit (s := S31x16x768) soff S1x16x768.size sinb).toLoadRect hl) k) Q :=
  step_slot K κ c o soff hsoff sinb (Finset.mem_filter.mpr ⟨Finset.mem_univ _, hb⟩) h

/-- Run the first piece of a program with what follows kept under one name, and come back to what follows. -/
theorem enter {α β : Type} {Q : α → sProp (MT nD τ sig Unit (Elt F) ℕ UU ℕ)} {S : sProp (MT nD τ sig Unit (Elt F) ℕ UU ℕ)} {c : Dev nD}
    {p : Prog (TpuEff nD τ sig (Elt F) Λ₀ .tc) β} {k : β → Prog (TpuEff nD τ sig (Elt F) Λ₀ .tc) α}
    (h : ∀ Φ : β → sProp (MT nD τ sig Unit (Elt F) ℕ UU ℕ),
      (∀ r, wp frame (wpE (defs₀ (F := F)) 𝒱₀ (c : Thread nD τ) none) Set.univ (k r) Q ⊢ Φ r)
        → S ⊢ wp frame (wpE (defs₀ (F := F)) 𝒱₀ (c : Thread nD τ) none) Set.univ p Φ) :
    S ⊢ wp frame (wpE (defs₀ (F := F)) 𝒱₀ (c : Thread nD τ) none) Set.univ (p >>= k) Q := by
  rw [wp_bind]; exact h _ fun r => Entails.refl _

theorem leave {α β : Type} {Q : α → sProp (MT nD τ sig Unit (Elt F) ℕ UU ℕ)} {S : sProp (MT nD τ sig Unit (Elt F) ℕ UU ℕ)} {c : Dev nD}
    {k : β → Prog (TpuEff nD τ sig (Elt F) Λ₀ .tc) α} {Φ : β → sProp (MT nD τ sig Unit (Elt F) ℕ UU ℕ)}
    (hΦ : ∀ r, wp frame (wpE (defs₀ (F := F)) 𝒱₀ (c : Thread nD τ) none) Set.univ (k r) Q ⊢ Φ r) {r : β}
    (h : S ⊢ wp frame (wpE (defs₀ (F := F)) 𝒱₀ (c : Thread nD τ) none) Set.univ (k r) Q) :
    S ⊢ wp frame (wpE (defs₀ (F := F)) 𝒱₀ (c : Thread nD τ) none) Set.univ (.ret r) Φ := by
  rw [wp_ret]; exact (h.trans (hΦ r)).trans fupd_intro

end Cert.KernelIdeal.AllReduce

end
-- ==== Proof.KernelIdeal.States.lean ====
/-
The states between the phases of one device's run, and how each phase's last state is the next phase's first.
-/
module

public import proofs.«01_k».proof.Proof.KernelIdeal.Steps

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (K : Contents F) (κ : GSem nD τ sig → ℕ)

/-! ## Credits of the memrefs the program names -/

theorem credit_row (off : Fin 2 → ℕ) (inb : ∀ a, off a + S16x768.size a ≤ S512x768.size a) :
    (oM.slice (Rect.unit (s := S512x768) off S16x768.size inb) (fun _ => rfl)).view.dmaCredit = N := by unfold N; rfl
theorem credit_xrow (off : Fin 2 → ℕ) (inb : ∀ a, off a + S16x768.size a ≤ S512x768.size a) :
    (xM.slice (Rect.unit (s := S512x768) off S16x768.size inb) (fun _ => rfl)).view.dmaCredit = N := by unfold N; rfl
theorem credit_land (off : Fin 3 → ℕ) (inb : ∀ a, off a + S1x16x768.size a ≤ S31x16x768.size a) :
    ((sM.slice (Rect.unit (s := S31x16x768) off S1x16x768.size inb) (fun _ => rfl)).squeeze S16x768 squeezes_S1x16x768_S16x768).view.dmaCredit = N := by
  unfold N; rfl

/-! ## The reduced chunk -/

/-- What device `c` stores: its own chunk and the 31 that arrived, added up in the program's order. -/
def reduced (c : Dev nD) : FVec F S16x768 .bf16 :=
  k0_pay34
    (k0_pay16 (k0_pay1 (ownVal K c)) (k0_pay2 (slotVal K c 30)) (k0_pay3 (slotVal K c 29)) (k0_pay4 (slotVal K c 28))
      (k0_pay5 (slotVal K c 27)) (k0_pay6 (slotVal K c 26)) (k0_pay7 (slotVal K c 25)) (k0_pay8 (slotVal K c 24))
      (k0_pay9 (slotVal K c 23)) (k0_pay10 (slotVal K c 22)) (k0_pay11 (slotVal K c 21)) (k0_pay12 (slotVal K c 20))
      (k0_pay13 (slotVal K c 19)) (k0_pay14 (slotVal K c 18)) (k0_pay15 (slotVal K c 17)) (slotVal K c 16))
    (k0_pay17 (slotVal K c 15)) (k0_pay18 (slotVal K c 14)) (k0_pay19 (slotVal K c 13)) (k0_pay20 (slotVal K c 12))
    (k0_pay21 (slotVal K c 11)) (k0_pay23 (k0_pay22 (slotVal K c 10))) (k0_pay24 (slotVal K c 9)) (k0_pay25 (slotVal K c 8))
    (k0_pay26 (slotVal K c 7)) (k0_pay27 (slotVal K c 6)) (k0_pay28 (slotVal K c 5)) (k0_pay29 (slotVal K c 4))
    (k0_pay30 (slotVal K c 3)) (k0_pay31 (slotVal K c 2)) (k0_pay32 (slotVal K c 1)) (k0_pay33 (slotVal K c 0))

/-! ## The states -/

/-- A cell's position before its wait. -/
def posOf (j : Fin 4) (c : Dev nD) (o : Fin 31) : sProp 𝕄 := atPos ER (cell j c o) 0 ∅ 0
/-- What the second send at distance `o` will need of its destination. -/
def later (c : Dev nD) (o : Fin 31) : sProp 𝕄 :=
  iprop((∃ f, oPts (peer c o) c fullShare f) ∗ reached ER (cell 3 (peer c o) (rev o)) 0)

/-- What the first half leaves untouched. -/
def keep (c : Dev nD) : sProp 𝕄 :=
  iprop((∃ f, oPts c c fullShare f) ∗ bigSep Finset.univ (sendTok 2 3 c) ∗ bigSep Finset.univ (toWait 3 c) ∗ bigSep Finset.univ (posOf 0 c)
    ∗ bigSep Finset.univ (posOf 2 c))
/-- Before the signals. -/
def atStart (c : Dev nD) : sProp 𝕄 :=
  iprop(xPts K c c ∗ (bigSep Finset.univ (fun o => xPts K c (peer c o)) ∗ bigSep Finset.univ (sendTok 0 1 c))
    ∗ bigSep Finset.univ (toWait 1 c) ∗ keep (F := F) c)
/-- While the chunks go out. -/
def atFirsts (c : Dev nD) : sProp 𝕄 :=
  iprop(atPos ER (barCell c) 1 ∅ 0 ∗ bigSep Finset.univ (later (F := F) c) ∗ bigSep Finset.univ (toWait (F := F) 1 c) ∗ keep (F := F) c)
/-- While they come in. -/
def atDowns (c : Dev nD) : sProp 𝕄 :=
  iprop(xPts K c c ∗ atPos ER (barCell c) 1 ∅ 0 ∗ bigSep Finset.univ (later c) ∗ bigSep Finset.univ (credOf 0 c) ∗ keep (F := F) c)
/-- Around the store. -/
def atStore (c : Dev nD) : sProp 𝕄 :=
  iprop(WaitDown K 1 c (debt c 31 31 0) 0 ∗ xPts K c c ∗ atPos ER (barCell c) 1 ∅ 0 ∗ bigSep Finset.univ (later c) ∗ bigSep Finset.univ (credOf 0 c)
    ∗ bigSep Finset.univ (sendTok 2 3 c) ∗ bigSep Finset.univ (toWait 3 c) ∗ bigSep Finset.univ (posOf 0 c) ∗ bigSep Finset.univ (posOf 2 c))
/-- What the rest of the run keeps from here on. -/
def kept (c : Dev nD) : sProp 𝕄 :=
  iprop(xPts K c c ∗ atPos ER (barCell c) 1 ∅ 0 ∗ oPts c c (shareDrop fullShare 31) K.R ∗ bigSep Finset.univ (waited K 1 c))
def atSeconds (c : Dev nD) : sProp 𝕄 :=
  iprop(kept K c ∗ bigSep Finset.univ (toWait 3 c) ∗ bigSep Finset.univ (toWait 0 c) ∗ bigSep Finset.univ (posOf 2 c))
/-- At the end. -/
def atEnd (c : Dev nD) : sProp 𝕄 :=
  iprop(owing c 0 ∗ kept K c ∗ bigSep Finset.univ (waited K 3 c) ∗ bigSep Finset.univ (waited K 0 c) ∗ bigSep Finset.univ (waited K 2 c))

/-! ## From phase to phase -/

omit [FloatOps F] in
theorem sep2 (Φ Ψ : Fin 31 → sProp 𝕄) : iprop(bigSep Finset.univ Φ ∗ bigSep Finset.univ Ψ) = bigSep Finset.univ fun o => iprop(Φ o ∗ Ψ o) :=
  (bigSep_sep' Finset.univ Φ Ψ).symm

omit [FloatOps F] in
theorem regroup_first (c : Dev nD) (o : Fin 31) :
    iprop(barPay (F := F) c o ∗ xPts K c (peer c o) ∗ sendTok 0 1 c o) ⊢ iprop(firstPart K c o ∗ later c o) := by
  unfold barPay firstPart later
  iintro ⟨⟨H1, H2, H3, H4⟩, H5, H6⟩
  isplitl [H1 H3 H5 H6]
  · isplitl [H6]; · iexact H6
    isplitl [H5]; · iexact H5
    isplitl [H1]; · iexact H1
    iexact H3
  isplitl [H2]; · iexact H2
  iexact H4

omit [FloatOps F] in
theorem regroup_second (c : Dev nD) (o : Fin 31) :
    iprop(oPts (F := F) c c (share o) K.R ∗ later c o ∗ sendTok 2 3 c o) ⊢ secondPart K c o := by
  unfold secondPart later
  iintro ⟨H1, ⟨H2, H3⟩, H4⟩
  isplitl [H4]; · iexact H4
  isplitl [H1]; · iexact H1
  isplitl [H2]; · iexact H2
  iexact H3

omit [FloatOps F] in
/-- The barrier's 31 payloads give the first sends their destinations. -/
theorem to_firsts (c : Dev nD) :
    iprop((owing c (debt c 31 0 0) ∗ bigSep Finset.univ (barPay (F := F) c) ∗ atPos ER (barCell c) 1 ∅ 0) ∗ atStart K c)
      ⊢ iprop(Firsts K c 0 ∗ xPts K c c ∗ atFirsts (F := F) c) := by
  unfold atStart Firsts atFirsts
  rw [rem_zero, done_zero, bigSep_empty]
  iintro ⟨⟨HO, Hb, Ha⟩, Hx, Hs, Hw, Hk⟩
  ihave Hs := (Entails.of_eq (sep2 (fun o => xPts K c (peer c o)) (sendTok 0 1 c))) $$ Hs
  ihave Hbs := (show iprop(bigSep Finset.univ (barPay (F := F) c) ∗ bigSep Finset.univ fun o => iprop(xPts K c (peer c o) ∗ sendTok 0 1 c o))
    ⊢ iprop(bigSep Finset.univ (firstPart K c) ∗ bigSep Finset.univ (later c)) from by
      rw [sep2, sep2]
      exact bigSep_mono fun o _ => regroup_first K c o) $$ [Hb Hs]
  · isplitl [Hb]; · iexact Hb
    iexact Hs
  icases Hbs with ⟨Hf, Hl⟩
  isplitl [HO Hf]
  · isplitl [HO]; · iexact HO
    isplitl [Hf]; · iexact Hf
    iempintro
  isplitl [Hx]; · iexact Hx
  isplitl [Ha]; · iexact Ha
  isplitl [Hl]; · iexact Hl
  isplitl [Hw]; · iexact Hw
  iexact Hk

omit [FloatOps F] in
theorem to_own (c : Dev nD) :
    iprop(Firsts K c 31 ∗ xPts K c c ∗ atFirsts (F := F) c) ⊢ iprop(xPts K c c ∗ Firsts K c 31 ∗ atFirsts (F := F) c) := by
  iintro ⟨H1, H2, H3⟩
  isplitl [H2]; · iexact H2
  isplitl [H1]; · iexact H1
  iexact H3

omit [FloatOps F] in
theorem to_downs (c : Dev nD) :
    iprop(xPts K c c ∗ Firsts K c 31 ∗ atFirsts (F := F) c) ⊢ iprop(WaitDown K 1 c (debt c 31 31 0) 31 ∗ atDowns K c) := by
  unfold Firsts atFirsts WaitDown Waiting atDowns
  rw [rem_all, done_all, bigSep_empty, bigSep_empty]
  iintro ⟨Hx, ⟨HO, -, Hc⟩, Ha, Hl, Hw, Hk⟩
  isplitl [HO Hw]
  · isplitl [HO]; · iexact HO
    isplitl [Hw]; · iexact Hw
    iempintro
  isplitl [Hx]; · iexact Hx
  isplitl [Ha]; · iexact Ha
  isplitl [Hl]; · iexact Hl
  isplitl [Hc]; · iexact Hc
  iexact Hk

omit [FloatOps F] in
theorem to_store (c : Dev nD) :
    iprop(WaitDown K 1 c (debt c 31 31 0) 0 ∗ atDowns K c) ⊢ iprop((∃ f, oPts c c fullShare f) ∗ atStore K c) := by
  unfold atDowns keep atStore
  iintro ⟨HW, Hx, Ha, Hl, Hc, Ho, H2, H3, H4, H5⟩
  isplitl [Ho]; · iexact Ho
  isplitl [HW]; · iexact HW
  isplitl [Hx]; · iexact Hx
  isplitl [Ha]; · iexact Ha
  isplitl [Hl]; · iexact Hl
  isplitl [Hc]; · iexact Hc
  isplitl [H2]; · iexact H2
  isplitl [H3]; · iexact H3
  isplitl [H4]; · iexact H4
  iexact H5

omit [FloatOps F] in
theorem toWait_all (j : Fin 4) (c : Dev nD) :
    iprop(bigSep Finset.univ (credOf (F := F) j c) ∗ bigSep Finset.univ (posOf j c)) = bigSep Finset.univ (toWait j c) := sep2 _ _

omit [FloatOps F] in
/-- The stored chunk is dealt into 31 shares and a remainder. -/
theorem deal (c : Dev nD) : oPts (F := F) c c fullShare K.R
    ⊢ iprop(oPts c c (shareDrop fullShare 31) K.R ∗ bigSep Finset.univ fun o : Fin 31 => oPts c c (share o) K.R) := by
  unfold oPts
  exact Transfers.pointsTo_toks_split fullShare 31

omit [FloatOps F] in
theorem undeal (c : Dev nD) :
    iprop(oPts (F := F) c c (shareDrop fullShare 31) K.R ∗ bigSep Finset.univ fun o : Fin 31 => oPts c c (share o) K.R)
      ⊢ oPts c c fullShare K.R := by
  unfold oPts
  exact Transfers.pointsTo_toks_join fullShare 31

omit [FloatOps F] in
theorem to_seconds (c : Dev nD) :
    iprop(oPts c c fullShare K.R ∗ atStore K c) ⊢ iprop(Seconds K c 0 ∗ atSeconds K c) := by
  unfold atStore Seconds atSeconds WaitDown Waiting kept
  rw [rem_zero, done_zero, bigSep_empty, bigSep_empty, ← toWait_all 0 c]
  iintro ⟨Ho, ⟨HO, -, Hw⟩, Hx, Ha, Hl, Hc, Ht, H3, H4, H5⟩
  ihave Ho := (deal K c) $$ Ho
  icases Ho with ⟨Hd, Hs⟩
  ihave Hp := (show iprop((bigSep Finset.univ fun o : Fin 31 => oPts (F := F) c c (share o) K.R)
      ∗ bigSep Finset.univ (later c) ∗ bigSep Finset.univ (sendTok 2 3 c)) ⊢ bigSep Finset.univ (secondPart K c) from by
      rw [sep2, sep2]
      exact bigSep_mono fun o _ => regroup_second K c o) $$ [Hs Hl Ht]
  · isplitl [Hs]; · iexact Hs
    isplitl [Hl]; · iexact Hl
    iexact Ht
  isplitl [HO Hp]
  · isplitl [HO]; · iexact HO
    isplitl [Hp]; · iexact Hp
    iempintro
  isplitl [Hx Ha Hd Hw]
  · isplitl [Hx]; · iexact Hx
    isplitl [Ha]; · iexact Ha
    isplitl [Hd]; · iexact Hd
    iexact Hw
  isplitl [H3]; · iexact H3
  isplitl [Hc H4]
  · isplitl [Hc]; · iexact Hc
    iexact H4
  iexact H5

omit [FloatOps F] in
theorem to_gathered (c : Dev nD) :
    iprop(Seconds K c 31 ∗ atSeconds K c)
      ⊢ iprop(WaitUp K 3 c (debt c 31 31 31) 0 ∗ kept K c ∗ bigSep Finset.univ (toWait 0 c) ∗ bigSep Finset.univ (toWait 2 c)) := by
  unfold Seconds atSeconds WaitUp Waiting
  rw [rem_zero, done_zero, rem_all, done_all, bigSep_empty, bigSep_empty, ← toWait_all 2 c]
  iintro ⟨⟨HO, -, Hc⟩, Hk, H3, H0, H2⟩
  isplitl [HO H3]
  · isplitl [HO]; · iexact HO
    isplitl [H3]; · iexact H3
    iempintro
  isplitl [Hk]; · iexact Hk
  isplitl [H0]; · iexact H0
  isplitl [Hc]; · iexact Hc
  iexact H2

omit [FloatOps F] in
/-- One phase of waits done, the next begins. -/
theorem next_wait (j j' : Fin 4) (c : Dev nD) (P Z : sProp 𝕄) :
    iprop(WaitUp K j c (debt c 31 31 31) 31 ∗ P ∗ bigSep Finset.univ (toWait j' c) ∗ Z)
      ⊢ iprop(WaitUp K j' c (debt c 31 31 31) 0 ∗ (P ∗ bigSep Finset.univ (waited K j c)) ∗ Z) := by
  unfold WaitUp Waiting
  rw [rem_zero, done_zero, rem_all, done_all, bigSep_empty, bigSep_empty]
  iintro ⟨⟨HO, -, Hw⟩, HP, Ht, HZ⟩
  isplitl [HO Ht]
  · isplitl [HO]; · iexact HO
    isplitl [Ht]; · iexact Ht
    iempintro
  isplitl [HP Hw]
  · isplitl [HP]; · iexact HP
    iexact Hw
  iexact HZ

omit [FloatOps F] in
/-- The last phase of waits begins: nothing else is left to wait for. -/
theorem last_wait (j j' : Fin 4) (c : Dev nD) (P : sProp 𝕄) :
    iprop(WaitUp K j c (debt c 31 31 31) 31 ∗ P ∗ bigSep Finset.univ (toWait j' c))
      ⊢ iprop(WaitUp K j' c (debt c 31 31 31) 0 ∗ (P ∗ bigSep Finset.univ (waited K j c)) ∗ emp) := by
  iintro ⟨HW, HP, Ht⟩
  iapply (next_wait K j j' c P iprop(emp))
  isplitl [HW]; · iexact HW
  isplitl [HP]; · iexact HP
  isplitl [Ht]; · iexact Ht
  iempintro

omit [FloatOps F] in
theorem to_end (c : Dev nD) :
    iprop(WaitUp K 2 c (debt c 31 31 31) 31 ∗ ((kept K c ∗ bigSep Finset.univ (waited K 3 c)) ∗ bigSep Finset.univ (waited K 0 c)) ∗ emp)
      ⊢ atEnd K c := by
  unfold WaitUp Waiting atEnd
  rw [rem_all, done_all, bigSep_empty, debt_none]
  iintro ⟨⟨HO, -, Hw⟩, ⟨⟨Hk, H3⟩, H0⟩, -⟩
  isplitl [HO]; · iexact HO
  isplitl [Hk]; · iexact Hk
  isplitl [H3]; · iexact H3
  isplitl [H0]; · iexact H0
  iexact Hw

end Cert.KernelIdeal.AllReduce

end
-- ==== Proof.KernelIdeal.Pieces.lean ====
/-
The three buffers whole and in pieces, and the result the protocol leaves.

The operand and the result are 32 chunks of 16 rows, one for each device; the landing buffer is 31 slots.  A device starts
with its three buffers whole, works on pieces, and ends with whole buffers again.
-/
module

public import proofs.«01_k».proof.Proof.KernelIdeal.States

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Ring (lead_disjoint lead_cover pointsTo_blocks pointsTo_blocks_join_exists)

variable {F : FTy → Type} [FloatOps F]

local notation "𝕄" => MT nD τ sig Unit (Elt F) ℕ UU ℕ

/-! ## The result -/

/-- The chunk a row lies in. -/
def ownerOf (i : S512x768.Idx) : Dev nD := ⟨(i 0).val / 16, by have : (i 0).val < 512 := (i 0).isLt; show _ < 32; omega⟩
/-- A row and column within the chunk. -/
def within (i : S512x768.Idx) : S16x768.Idx :=
  Fin.cons (⟨(i 0).val % 16, Nat.mod_lt _ (by decide)⟩ : Fin 16) (Fin.cons (⟨(i 1).val, (i 1).isLt⟩ : Fin 768) (fun a => a.elim0))

/-- Every chunk reduced. -/
def gathered (X : Dev nD → (cc0_stg0_0 : Ref sig .tc).ty.Contents (Elt F)) : (cc0_stg1_0 : Ref sig .tc).ty.Contents (Elt F) :=
  fun i => reduced (⟨X, X 0⟩ : Contents F) (ownerOf i) (within i)

/-- The contents of a run whose devices hold the operands `X`. -/
def contents (X : Dev nD → (cc0_stg0_0 : Ref sig .tc).ty.Contents (Elt F)) : Contents F := ⟨X, gathered X⟩

theorem ownerOf_row (c : Dev nD) (j : S16x768.Idx) : ownerOf ((rowR c).idx j) = c := by
  have hj : (j 0).val < 16 := (j 0).isLt
  apply Fin.ext
  show (16 * c.val + 1 * (j 0).val) / 16 = c.val
  omega

theorem within_row (c : Dev nD) (j : S16x768.Idx) : within ((rowR c).idx j) = j := by
  have hj : (j 0).val < 16 := (j 0).isLt
  funext a
  fin_cases a
  · apply Fin.ext
    show (16 * c.val + 1 * (j 0).val) % 16 = (j 0).val
    omega
  · apply Fin.ext
    show 0 + 1 * (j 1).val = (j 1).val
    omega

theorem read_gathered (X : Dev nD → (cc0_stg0_0 : Ref sig .tc).ty.Contents (Elt F)) (c : Dev nD) :
    (oRow c).view.read (Elt F) (contents X).R = reduced (contents X) c := by
  funext j
  show gathered X ((rowR c).idx j) = _
  unfold gathered
  rw [ownerOf_row, within_row]
  rfl

/-! ## The pieces of a buffer -/

theorem xRow_set (d : Dev nD) : (xRow d).view.set = (rowR d).set := by
  simp only [Memref.view_slice, Memref.view_whole]
  exact View.set_slice_whole _ _
theorem oRow_set (d : Dev nD) : (oRow d).view.set = (rowR d).set := by
  simp only [Memref.view_slice, Memref.view_whole]
  exact View.set_slice_whole _ _
theorem slotM_set (h : Fin 31) : (slotM h).view.set = (slotR h).set :=
  (View.set_reshape _ _).trans (View.set_slice_whole _ _)

theorem rows_disjoint (d d' : Dev nD) (h : d ≠ d') : Disjoint (rowR d).set (rowR d').set :=
  lead_disjoint (s := S512x768) (NB := 32) 0 16 (fun d => ![16 * d.val, 0]) S16x768.size row_inb (fun _ => rfl) rfl d d' h
theorem rows_cover : Finset.univ.biUnion (fun d : Dev nD => (rowR d).set) = Finset.univ :=
  lead_cover (s := S512x768) (NB := 32) 0 16 (fun d => ![16 * d.val, 0]) S16x768.size row_inb (fun _ => rfl)
    (fun b a ha => by fin_cases a; · exact absurd rfl ha
                      · rfl) rfl
    (fun a ha => by fin_cases a; · exact absurd rfl ha
                    · rfl) rfl
theorem slots_disjoint (h h' : Fin 31) (hn : h ≠ h') : Disjoint (slotR h).set (slotR h').set :=
  lead_disjoint (s := S31x16x768) (NB := 31) 0 1 (fun h => ![h.val, 0, 0]) S1x16x768.size slot_inb (fun h => (Nat.one_mul h.val).symm) rfl h h' hn
theorem slots_cover : Finset.univ.biUnion (fun h : Fin 31 => (slotR h).set) = Finset.univ :=
  lead_cover (s := S31x16x768) (NB := 31) 0 1 (fun h => ![h.val, 0, 0]) S1x16x768.size slot_inb (fun h => (Nat.one_mul h.val).symm)
    (fun b a ha => by fin_cases a; · exact absurd rfl ha
                      · rfl
                      · rfl) rfl
    (fun a ha => by fin_cases a; · exact absurd rfl ha
                    · rfl
                    · rfl) rfl

/-- The other devices, by distance. -/
theorem others (c : Dev nD) : Finset.univ.erase c = Finset.univ.map ⟨peer c, peer_inj c⟩ := by
  ext d
  simp only [Finset.mem_erase, Finset.mem_univ, and_true, Finset.mem_map, true_and, Function.Embedding.coeFn_mk]
  exact ⟨fun h => peer_surj c d h, fun ⟨o, h⟩ => h ▸ peer_ne c o⟩

omit [FloatOps F] in
/-- All devices: `c` and the 31 others. -/
theorem around (c : Dev nD) (Φ : Dev nD → sProp 𝕄) :
    bigSep Finset.univ Φ = iprop(Φ c ∗ bigSep Finset.univ fun o => Φ (peer c o)) := by
  rw [bigSep_univ_at _ c, others c, bigSep_map]; rfl

omit [FloatOps F] in
theorem xPts_rows (K : Contents F) (c d : Dev nD) :
    xPts K c d = (((c : Thread nD τ).loc cc0_stg0_0) ↦[(rowR d).set]{fullShare} K.X c : sProp 𝕄) := by
  unfold xPts; rw [xRow_set]
omit [FloatOps F] in
theorem oPts_rows (c d : Dev nD) (f : (cc0_stg1_0 : Ref sig .tc).ty.Contents (Elt F)) :
    oPts c d fullShare f = (((c : Thread nD τ).loc cc0_stg1_0) ↦[(rowR d).set]{fullShare} f : sProp 𝕄) := by
  unfold oPts; rw [oRow_set]
omit [FloatOps F] in
theorem sPts_slot (c : Dev nD) (h : Fin 31) (f : (cc0_scratch0 : Ref sig .tc).ty.Contents (Elt F)) :
    sPts c h f = (((c : Thread nD τ).loc cc0_scratch0) ↦[(slotR h).set]{fullShare} f : sProp 𝕄) := by
  unfold sPts; rw [slotM_set]

omit [FloatOps F] in
/-- The operand whole is its own chunk and the 31 others. -/
theorem x_pieces (K : Contents F) (c : Dev nD) :
    (((c : Thread nD τ).loc cc0_stg0_0) ↦{fullShare} K.X c : sProp 𝕄)
      = iprop(xPts K c c ∗ bigSep Finset.univ fun o => xPts K c (peer c o)) := by
  rw [pointsTo_blocks (fun d : Dev nD => (rowR d).set) rows_disjoint rows_cover, around c]
  simp only [xPts_rows]

omit [FloatOps F] in
theorem o_pieces (c : Dev nD) (f : (cc0_stg1_0 : Ref sig .tc).ty.Contents (Elt F)) :
    (((c : Thread nD τ).loc cc0_stg1_0) ↦{fullShare} f : sProp 𝕄)
      = iprop(oPts c c fullShare f ∗ bigSep Finset.univ fun o => oPts c (peer c o) fullShare f) := by
  rw [pointsTo_blocks (fun d : Dev nD => (rowR d).set) rows_disjoint rows_cover, around c]
  simp only [oPts_rows]

omit [FloatOps F] in
theorem slot_some (c : Dev nD) (h : Fin 31) (f : (cc0_scratch0 : Ref sig .tc).ty.Contents (Elt F)) :
    (((c : Thread nD τ).loc cc0_scratch0) ↦[(slotR h).set]{fullShare} f : sProp 𝕄) ⊢ iprop(∃ f, sPts c h f) := by
  rw [← sPts_slot]
  iintro H; iexists f; iexact H

omit [FloatOps F] in
theorem s_pieces (c : Dev nD) (f : (cc0_scratch0 : Ref sig .tc).ty.Contents (Elt F)) :
    (((c : Thread nD τ).loc cc0_scratch0) ↦{fullShare} f : sProp 𝕄) ⊢ bigSep Finset.univ fun h => iprop(∃ f, sPts c h f) := by
  rw [pointsTo_blocks (fun h : Fin 31 => (slotR h).set) slots_disjoint slots_cover]
  exact bigSep_mono fun h _ => slot_some c h f

omit [FloatOps F] in
theorem s_join (c : Dev nD) (f₀ : (cc0_scratch0 : Ref sig .tc).ty.Contents (Elt F)) :
    (bigSep Finset.univ fun h => iprop(∃ f, sPts (F := F) c h f))
      ⊢ (iprop(∃ f : Buf (Elt F) ((c : Thread nD τ).loc cc0_scratch0), ((c : Thread nD τ).loc cc0_scratch0) ↦{fullShare} f) : sProp 𝕄) := by
  refine BI.Entails.trans ?_ (pointsTo_blocks_join_exists (fun h : Fin 31 => (slotR h).set) slots_disjoint slots_cover f₀)
  simp only [sPts_slot]
  exact BI.Entails.refl _

end Cert.KernelIdeal.AllReduce

end
-- ==== Proof.KernelIdeal.Ghost.lean ====
/-
The ghost state at the launch, and how a device opens and closes its own cells.

The launch makes every cell's invariant, the duty tokens and the credits for what the devices owe one another.  Each
token goes to the device that pays the duty, each credit to the device that waits.  The 124 cells of the copies belong to
the kernel: a device opens them when the kernel starts and closes them, their counters at zero, when it ends.
-/
module

public import proofs.«01_k».proof.Proof.KernelIdeal.Pieces

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Ring (lead_disjoint lead_cover pointsTo_blocks pointsTo_blocks_join_exists)

variable {F : FTy → Type} [FloatOps F]

local notation "𝕄" => MT nD τ sig Unit (Elt F) ℕ UU ℕ

variable (K : Contents F) (κ : GSem nD τ sig → ℕ)

/-! ## The cells and the tokens -/

/-- The kernel's own semaphores: the four families. -/
abbrev osem (p : Fin 4 × Fin 31) : SemLoc sig := .dma (fam p.1 p.2)

theorem osem_inj : Function.Injective osem := by
  rintro ⟨j, o⟩ ⟨j', o'⟩ h
  obtain ⟨h1, h2⟩ := fam_inj (SemLoc.dma.inj h)
  exact Prod.ext h1 h2

def barEmb : Dev nD ↪ GSem nD τ sig := ⟨fun c => barCell c, fun _ _ h => congrArg (fun g : GSem nD τ sig => g.1.1) h⟩
def cellEmb : Dev nD × (Fin 4 × Fin 31) ↪ GSem nD τ sig :=
  ⟨fun p => cell p.2.1 p.1 p.2.2, fun _ _ h =>
    Prod.ext (congrArg (fun g : GSem nD τ sig => g.1.1) h) (osem_inj (congrArg Prod.snd h))⟩

/-- The barrier cells, live from the launch on, and the copies' cells, opened by the kernel. -/
abbrev barCells : Finset (GSem nD τ sig) := Finset.univ.map barEmb
abbrev cells : Finset (GSem nD τ sig) := Finset.univ.map cellEmb

theorem disjoint_cells : Disjoint (barCells : Finset (GSem nD τ sig)) cells := by
  rw [Finset.disjoint_left]
  rintro g h₁ h₂
  obtain ⟨c, -, rfl⟩ := Finset.mem_map.mp h₁
  obtain ⟨p, -, h⟩ := Finset.mem_map.mp h₂
  have h' : (SemLoc.dma (fam p.2.1 p.2.2) : SemLoc sig) = SemLoc.reg barS := congrArg Prod.snd h
  cases h'

/-- Every duty's token: 31 at each barrier cell, one at each cell of a copy. -/
def tokOf : (Dev nD × Fin 31) ⊕ (Dev nD × (Fin 4 × Fin 31)) → GSem nD τ sig × ℕ × Fin 31
  | .inl p => (barCell p.1, 0, p.2)
  | .inr p => (cell p.2.1 p.1 p.2.2, 0, 0)

theorem tokOf_inj : Function.Injective tokOf := by
  rintro (p | p) (q | q) h
  · exact congrArg Sum.inl (Prod.ext (congrArg (fun t : GSem nD τ sig × ℕ × Fin 31 => t.1.1.1) h)
      (congrArg (fun t : GSem nD τ sig × ℕ × Fin 31 => t.2.2) h))
  · have h' : (SemLoc.reg barS : SemLoc sig) = SemLoc.dma (fam q.2.1 q.2.2) :=
      congrArg (fun t : GSem nD τ sig × ℕ × Fin 31 => t.1.2) h
    cases h'
  · have h' : (SemLoc.dma (fam p.2.1 p.2.2) : SemLoc sig) = SemLoc.reg barS :=
      congrArg (fun t : GSem nD τ sig × ℕ × Fin 31 => t.1.2) h
    cases h'
  · exact congrArg Sum.inr (cellEmb.injective (congrArg Prod.fst h))

def toks : Finset (GSem nD τ sig × ℕ × Fin 31) := Finset.univ.map ⟨tokOf, tokOf_inj⟩

/-! ## Families of 124 -/

omit [FloatOps F] in
theorem fams (Φ : Fin 4 × Fin 31 → sProp 𝕄) :
    bigSep Finset.univ Φ = iprop((bigSep Finset.univ fun o => Φ (0, o)) ∗ (bigSep Finset.univ fun o => Φ (1, o))
      ∗ (bigSep Finset.univ fun o => Φ (2, o)) ∗ bigSep Finset.univ fun o => Φ (3, o)) := by
  rw [bigSep_univ_prod, show (Finset.univ : Finset (Fin 4)) = {0, 1, 2, 3} from by decide, bigSep_insert (by decide),
    bigSep_insert (by decide), bigSep_insert (by decide), bigSep_singleton]
  rfl

/-- A device and a distance to the device at that distance and the distance back. -/
def swap : Dev nD × Fin 31 ≃ Dev nD × Fin 31 where
  toFun p := (peer p.1 p.2, rev p.2)
  invFun p := (peer p.1 p.2, rev p.2)
  left_inv p := Prod.ext (peer_peer p.1 p.2) (rev_rev p.2)
  right_inv p := Prod.ext (peer_peer p.1 p.2) (rev_rev p.2)

omit [FloatOps F] in
/-- What belongs to every device at every distance, seen from the other end. -/
theorem swapped (Φ : Dev nD → Fin 31 → sProp 𝕄) :
    (bigSep Finset.univ fun c => bigSep Finset.univ fun o => Φ c o)
      = bigSep Finset.univ fun c => bigSep Finset.univ fun o => Φ (peer c o) (rev o) := by
  rw [← bigSep_univ_prod (fun p : Dev nD × Fin 31 => Φ p.1 p.2), bigSep_univ_equiv swap, bigSep_univ_prod]
  rfl

/-! ## What each device gets -/

/-- The duty tokens of what device `c` pays. -/
def tokens (c : Dev nD) : sProp 𝕄 :=
  iprop((bigSep Finset.univ fun o => dutyTok ER (barCell (peer c o)) 0 (rev o))
    ∗ (bigSep Finset.univ fun o => dutyTok ER (cell 0 c o) 0 0) ∗ (bigSep Finset.univ fun o => dutyTok ER (cell 1 (peer c o) (rev o)) 0 0)
    ∗ (bigSep Finset.univ fun o => dutyTok ER (cell 2 c o) 0 0) ∗ bigSep Finset.univ fun o => dutyTok ER (cell 3 (peer c o) (rev o)) 0 0)

omit [FloatOps F] in
theorem toks_dealt :
    bigSep toks (fun x => (dutyTok ER x.1 x.2.1 x.2.2 : sProp 𝕄)) = bigSep Finset.univ fun c : Dev nD => tokens (F := F) c := by
  unfold toks tokens
  rw [bigSep_map, bigSep_univ_sum, bigSep_univ_prod, bigSep_univ_prod]
  simp only [Function.Embedding.coeFn_mk, tokOf, fams]
  rw [bigSep_sep', bigSep_sep', bigSep_sep', bigSep_sep', bigSep_sep', bigSep_sep', bigSep_sep',
    swapped (fun c o => dutyTok ER (barCell c) 0 o), swapped (fun c o => dutyTok ER (cell 1 c o) 0 0),
    swapped (fun c o => dutyTok ER (cell 3 c o) 0 0)]
  rfl

/-- The credits device `c` waits with. -/
def credits (c : Dev nD) : sProp 𝕄 :=
  iprop(cred (tallyAt (barCell c) () 31) ∗ bigSep Finset.univ (credOf 1 c) ∗ bigSep Finset.univ (credOf 3 c))

/-- What all devices together owe. -/
theorem total_debt : (∑ d : Dev nD, debt d 0 0 0)
    = (∑ p : Dev nD × Fin 31, tallyAt (Ix := Unit) (barCell p.1) () 1)
      + ((∑ p : Dev nD × Fin 31, tallyAt (cell 1 p.1 p.2) () N) + ∑ p : Dev nD × Fin 31, tallyAt (cell 3 p.1 p.2) () N) := by
  unfold debt
  rw [rem_zero, Finset.sum_add_distrib, Finset.sum_add_distrib,
    ← Equiv.sum_comp swap (fun p : Dev nD × Fin 31 => tallyAt (Ix := Unit) (barCell p.1) () 1),
    ← Equiv.sum_comp swap (fun p : Dev nD × Fin 31 => tallyAt (Ix := Unit) (cell 1 p.1 p.2) () N),
    ← Equiv.sum_comp swap (fun p : Dev nD × Fin 31 => tallyAt (Ix := Unit) (cell 3 p.1 p.2) () N),
    Fintype.sum_prod_type, Fintype.sum_prod_type, Fintype.sum_prod_type]
  rfl

theorem sum_tally {ι : Type} [Fintype ι] (f : ι → CellTallies nD τ sig Unit) (g : GSem nD τ sig) :
    (∑ i, f i) g () = ∑ i, f i g () := by
  rw [Finset.sum_apply, Finsupp.finset_sum_apply]

theorem tally_other {g g' : GSem nD τ sig} (h : g ≠ g') (k : ℕ) : tallyAt (Ix := Unit) g' () k g () = 0 := by
  rw [tallyAt_apply]; exact if_neg fun h' => h h'.1

theorem bar_ne_cell (j : Fin 4) (c d : Dev nD) (o : Fin 31) : barCell c ≠ cell j d o := fun h => by
  have h' : (SemLoc.reg barS : SemLoc sig) = SemLoc.dma (fam j o) := congrArg Prod.snd h
  cases h'
theorem cell_ne {j j' : Fin 4} (hj : j ≠ j') (c d : Dev nD) (o o' : Fin 31) : cell j c o ≠ cell j' d o' := fun h =>
  hj (fam_inj (SemLoc.dma.inj (congrArg Prod.snd h))).1

theorem sum_cell (j : Fin 4) (c : Dev nD) (o : Fin 31) :
    (∑ p : Dev nD × Fin 31, tallyAt (Ix := Unit) (cell j p.1 p.2) () N (cell j c o) ()) = N := by
  rw [Finset.sum_eq_single (c, o)]
  · rw [tallyAt_apply, if_pos ⟨rfl, rfl⟩]
  · intro p _ hp
    refine tally_other (fun h => hp ?_) N
    exact Prod.ext (congrArg (fun g : GSem nD τ sig => g.1.1) h).symm (fam_inj (SemLoc.dma.inj (congrArg Prod.snd h))).2.symm
  · exact fun h => absurd (Finset.mem_univ _) h

theorem sum_bar (c : Dev nD) : (∑ p : Dev nD × Fin 31, tallyAt (Ix := Unit) (barCell p.1) () 1 (barCell c) ()) = 31 := by
  rw [Fintype.sum_prod_type, Finset.sum_eq_single c]
  · simp only [tallyAt_apply, and_self, if_true, Finset.sum_const, Finset.card_univ, Fintype.card_fin, smul_eq_mul]
  · intro d _ hd
    exact Finset.sum_eq_zero fun o _ => tally_other (fun h => hd (congrArg (fun g : GSem nD τ sig => g.1.1) h).symm) 1
  · exact fun h => absurd (Finset.mem_univ _) h

/-- What each device owes at the launch. -/
abbrev O₀ (c : Dev nD) : CellTallies nD τ sig Unit := debt c 0 0 0

theorem owed_at (g : GSem nD τ sig) : (∑ d : Dev nD, O₀ d g ())
    = (∑ p : Dev nD × Fin 31, tallyAt (Ix := Unit) (barCell p.1) () 1 g ())
      + ((∑ p : Dev nD × Fin 31, tallyAt (cell 1 p.1 p.2) () N g ()) + ∑ p : Dev nD × Fin 31, tallyAt (cell 3 p.1 p.2) () N g ()) := by
  rw [← sum_tally, total_debt, Pi.add_apply, Finsupp.add_apply, Pi.add_apply, Finsupp.add_apply, sum_tally, sum_tally, sum_tally]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem owed_bar (c : Dev nD) : (∑ d : Dev nD, O₀ d (barCell c) ()) = 31 := by
  rw [owed_at, sum_bar, Finset.sum_eq_zero fun p _ => tally_other (bar_ne_cell 1 c p.1 p.2) N,
    Finset.sum_eq_zero fun p _ => tally_other (bar_ne_cell 3 c p.1 p.2) N, add_zero, add_zero]
theorem owed_first (c : Dev nD) (o : Fin 31) : (∑ d : Dev nD, O₀ d (cell 1 c o) ()) = N := by
  rw [owed_at, sum_cell, Finset.sum_eq_zero fun p _ => tally_other (bar_ne_cell 1 p.1 c o).symm 1,
    Finset.sum_eq_zero fun p _ => tally_other (cell_ne (by decide) c p.1 o p.2) N, zero_add, add_zero]
theorem owed_second (c : Dev nD) (o : Fin 31) : (∑ d : Dev nD, O₀ d (cell 3 c o) ()) = N := by
  rw [owed_at, sum_cell, Finset.sum_eq_zero fun p _ => tally_other (bar_ne_cell 3 p.1 c o).symm 1,
    Finset.sum_eq_zero fun p _ => tally_other (cell_ne (by decide) c p.1 o p.2) N, zero_add, zero_add]

omit [FloatOps F] in
theorem pick (A B C D : sProp 𝕄) : iprop(A ∗ B ∗ C ∗ D) ⊢ iprop(B ∗ D) := by
  iintro ⟨-, H1, -, H3⟩
  isplitl [H1]; · iexact H1
  iexact H3

omit [FloatOps F] in
theorem creds (c : Dev nD) : (Pipeline.launchCred O₀ c : sProp 𝕄) ⊢ credits (F := F) c := by
  unfold Pipeline.launchCred credits
  rw [bigSep_univ_at _ (SemLoc.reg barS), launch_at _ _ (owed_bar c)]
  refine sep_mono_right ?_
  refine (bigSep_subset (t := Finset.univ.map ⟨osem, osem_inj⟩) fun s hs => ?_).trans ?_
  · obtain ⟨p, -, rfl⟩ := Finset.mem_map.mp hs
    exact Finset.mem_erase.mpr ⟨fun h => (bar_ne_cell p.1 c c p.2) (congrArg (Prod.mk (c : Thread nD τ)) h.symm), Finset.mem_univ _⟩
  rw [bigSep_map, fams]
  have h1 : (bigSep Finset.univ fun o : Fin 31 => (cred (tallyOn ((c.tc : Thread nD τ), osem (1, o))
      (launchCredit (Pipeline.owing O₀) 0 ((c.tc : Thread nD τ), osem (1, o)))) : sProp 𝕄)) = bigSep Finset.univ (credOf 1 c) :=
    bigSep_congr fun o _ => by unfold credOf; exact congrArg _ (launch_at (cell 1 c o) _ (owed_first c o))
  have h3 : (bigSep Finset.univ fun o : Fin 31 => (cred (tallyOn ((c.tc : Thread nD τ), osem (3, o))
      (launchCredit (Pipeline.owing O₀) 0 ((c.tc : Thread nD τ), osem (3, o)))) : sProp 𝕄)) = bigSep Finset.univ (credOf 3 c) :=
    bigSep_congr fun o _ => by unfold credOf; exact congrArg _ (launch_at (cell 3 c o) _ (owed_second c o))
  rw [← h1, ← h3]
  exact pick _ _ _ _

/-! ## Opening and closing a device's own cells -/

def opens (c : Dev nD) : sProp 𝕄 := bigSep Finset.univ fun p : Fin 4 × Fin 31 => openTok ER (cell p.1 c p.2)
def opened (c : Dev nD) : sProp 𝕄 :=
  bigSep Finset.univ fun p : Fin 4 × Fin 31 => iprop(atPos ER (cell p.1 c p.2) 0 ∅ 0 ∗ reached ER (cell p.1 c p.2) 0)
def finished (c : Dev nD) : sProp 𝕄 := bigSep Finset.univ fun p : Fin 4 × Fin 31 => atPos ER (cell p.1 c p.2) 1 ∅ 0

omit [FloatOps F] in
theorem open_one (c : Dev nD) (p : Fin 4 × Fin 31) :
    iprop(env K κ ∗ openTok ER (cell p.1 c p.2) ∗ semVal (cell p.1 c p.2) 0)
      ⊢ (iprop(|={Set.univ}=> (atPos ER (cell p.1 c p.2) 0 ∅ 0 ∗ reached ER (cell p.1 c p.2) 0)) : sProp 𝕄) :=
  (BIClass.sep_mono (env_cell K κ p.1 c p.2) (Entails.refl _)).trans (Rounds.cell_open ER (sched K) (Set.mem_univ _))

omit [FloatOps F] in
theorem open_all (c : Dev nD) :
    iprop(env K κ ∗ opens c ∗ Pipeline.ownSems0 osem c) ⊢ (iprop(|={Set.univ}=> opened c) : sProp 𝕄) := by
  unfold opens opened Pipeline.ownSems0
  rw [← bigSep_sep']
  exact (bigSep_with_persistent fun p _ => open_one K κ c p).trans (bigSep_fupd _ _)

omit [FloatOps F] in
theorem close_one (c : Dev nD) (p : Fin 4 × Fin 31) :
    iprop(env K κ ∗ atPos ER (cell p.1 c p.2) 1 ∅ 0) ⊢ (iprop(|={Set.univ}=> semVal (cell p.1 c p.2) 0) : sProp 𝕄) :=
  (BIClass.sep_mono (env_cell K κ p.1 c p.2) (Entails.refl _)).trans
    (Rounds.cell_close ER (sched K) (Set.mem_univ _) id (R := 1) (duties_later K _))

omit [FloatOps F] in
theorem close_all (c : Dev nD) :
    iprop(env K κ ∗ finished c) ⊢ (iprop(|={Set.univ}=> Pipeline.ownSems0 osem c) : sProp 𝕄) := by
  unfold finished Pipeline.ownSems0
  exact (bigSep_with_persistent fun p _ => close_one K κ c p).trans (bigSep_fupd _ _)

omit [FloatOps F] in
theorem close_bar (c : Dev nD) :
    iprop(env K κ ∗ atPos ER (barCell c) 1 ∅ 0) ⊢ (iprop(|={Set.univ}=> semVal (barCell c) 0) : sProp 𝕄) :=
  (BIClass.sep_mono ((env_bar K κ c).trans sep_elim_left) (Entails.refl _)).trans
    (Rounds.cell_close ER (sched K) (Set.mem_univ _) id (R := 1) (duties_later K _))

/-! ## The launch -/

/-- What the launch leaves with device `c`. -/
def given (c : Dev nD) : sProp 𝕄 := iprop(atPos ER (barCell c) 0 ∅ 0 ∗ opens c ∗ tokens (F := F) c)

omit [FloatOps F] in
/-- Every cell's invariant under one map of names, and each device's part. -/
theorem fund :
    iprop((bigSep Finset.univ fun c : Dev nD => (semVal (barCell c) 0 : sProp 𝕄)) ∗ BI.own (ER (launchOf barCells cells toks)))
      ⊢ (iprop(|={Set.univ}=> ∃ κ, records K κ ∗ bigSep Finset.univ fun c : Dev nD => given (F := F) c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep cells (fun g => (openTok ER g : sProp 𝕄)) ⊢ bigSep Finset.univ (fun c : Dev nD => opens (F := F) c) :=
    Entails.of_eq (by
      rw [bigSep_map, bigSep_univ_prod]
      rfl)
  have hrec (κ : GSem nD τ sig → ℕ) : iprop((bigSep (barCells ∪ cells) fun g => (cellInv ER (sched K) (κ g) g : sProp 𝕄))
      ∗ bigSep barCells fun g => reached ER g 0) ⊢ records K κ := by
    unfold records
    rw [show (bigSep (barCells ∪ cells) fun g => (cellInv ER (sched K) (κ g) g : sProp 𝕄))
        = iprop((bigSep barCells fun g => cellInv ER (sched K) (κ g) g) ∗ bigSep cells fun g => cellInv ER (sched K) (κ g) g) from
          BI.bigSep_union disjoint_cells, bigSep_map, bigSep_map, bigSep_map, bigSep_sep']
    iintro ⟨⟨Hb, Hc⟩, Hr⟩
    isplitl [Hb Hr]
    · isplitl [Hb]; · iexact Hb
      iexact Hr
    iexact Hc
  iintro ⟨Hv, Hu⟩
  imod (Rounds.fund_launch ER (sched K) disjoint_cells (fun g _ h => h) toks) $$ [Hv Hu] with ⟨%κ, -, Hinv, Hr, Hat, Hopen, Htok⟩
  · isplitl [Hv]
    · iapply hv $$ Hv
    · iexact Hu
  imodintro
  iexists κ
  isplitl [Hinv Hr]
  · iapply (hrec κ)
    isplitl [Hinv]; · iexact Hinv
    iexact Hr
  unfold given
  rw [bigSep_sep', bigSep_sep']
  isplitl [Hat]; · iapply hat $$ Hat
  isplitl [Hopen]; · iapply hopen $$ Hopen
  iapply (Entails.of_eq (toks_dealt (F := F))) $$ Htok

end Cert.KernelIdeal.AllReduce

end
-- ==== Proof.KernelIdeal.Ends.lean ====
/-
The two ends of a device's run.

At the start the device holds its three buffers whole, its tokens, credits and opened cells; they are sorted into what
the first phase uses up and what later phases keep.  At the end the pieces that came back are put together again and the
cells are closed at zero.
-/
module

public import proofs.«01_k».proof.Proof.KernelIdeal.Ghost

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Ring (lead_disjoint lead_cover pointsTo_blocks pointsTo_blocks_join_exists)

variable {F : FTy → Type} [FloatOps F]

local notation "𝕄" => MT nD τ sig Unit (Elt F) ℕ UU ℕ

variable (K : Contents F) (κ : GSem nD τ sig → ℕ)

/-- A device's three buffers: its operand, its result and the landing buffer. -/
def whole (c : Dev nD) (o : (cc0_stg1_0 : Ref sig .tc).ty.Contents (Elt F)) (s : (cc0_scratch0 : Ref sig .tc).ty.Contents (Elt F)) : sProp 𝕄 :=
  iprop((((c : Thread nD τ).loc cc0_stg0_0) ↦{fullShare} K.X c) ∗ (((c : Thread nD τ).loc cc0_stg1_0) ↦{fullShare} o)
    ∗ (((c : Thread nD τ).loc cc0_scratch0) ↦{fullShare} s))

/-- What the kernel starts with besides its buffers. -/
def armed (c : Dev nD) : sProp 𝕄 :=
  iprop(atPos ER (barCell c) 0 ∅ 0 ∗ opened c ∗ tokens (F := F) c ∗ credits (F := F) c)

def reachedOf (j : Fin 4) (c : Dev nD) (o : Fin 31) : sProp 𝕄 := reached ER (cell j c o) 0
def atOne (j : Fin 4) (c : Dev nD) (o : Fin 31) : sProp 𝕄 := atPos ER (cell j c o) 1 ∅ 0

omit [FloatOps F] in
/-- The opened cells by family. -/
theorem opened_fams (c : Dev nD) : opened (F := F) c
    = iprop((bigSep Finset.univ (posOf 0 c) ∗ bigSep Finset.univ (reachedOf 0 c)) ∗ (bigSep Finset.univ (posOf 1 c) ∗ bigSep Finset.univ (reachedOf 1 c))
      ∗ (bigSep Finset.univ (posOf 2 c) ∗ bigSep Finset.univ (reachedOf 2 c)) ∗ (bigSep Finset.univ (posOf 3 c) ∗ bigSep Finset.univ (reachedOf 3 c))) := by
  unfold opened
  rw [fams, sep2 (posOf 0 c), sep2 (posOf 1 c), sep2 (posOf 2 c), sep2 (posOf 3 c)]
  rfl

omit [FloatOps F] in
theorem finished_fams (c : Dev nD) : finished (F := F) c
    = iprop(bigSep Finset.univ (atOne 0 c) ∗ bigSep Finset.univ (atOne 1 c) ∗ bigSep Finset.univ (atOne 2 c) ∗ bigSep Finset.univ (atOne 3 c)) := by
  unfold finished
  rw [fams]
  rfl

omit [FloatOps F] in
theorem waited_all (j : Fin 4) (c : Dev nD) :
    bigSep Finset.univ (waited K j c) = iprop(bigSep Finset.univ (atOne (F := F) j c) ∗ bigSep Finset.univ (pay K j c)) := (sep2 _ _).symm

omit [FloatOps F] in
theorem sigParts (c : Dev nD) : bigSep Finset.univ (sigPart (F := F) c)
    = iprop((bigSep Finset.univ fun o => dutyTok ER (barCell (peer c o)) 0 (rev o)) ∗ (bigSep Finset.univ fun o => iprop(∃ f, sPts c o f))
      ∗ (bigSep Finset.univ fun o => iprop(∃ f, oPts c (peer c o) fullShare f)) ∗ bigSep Finset.univ (reachedOf 1 c) ∗ bigSep Finset.univ (reachedOf 3 c)) := by
  rw [sep2, sep2, sep2, sep2]
  rfl

omit [FloatOps F] in
theorem sendToks (j j' : Fin 4) (c : Dev nD) : bigSep Finset.univ (sendTok (F := F) j j' c)
    = iprop((bigSep Finset.univ fun o => dutyTok ER (cell j c o) 0 0) ∗ bigSep Finset.univ (reachedOf j c)
      ∗ bigSep Finset.univ fun o => dutyTok ER (cell j' (peer c o) (rev o)) 0 0) := by
  rw [sep2, sep2]
  rfl

omit [FloatOps F] in
theorem o_some (c d : Dev nD) (f : (cc0_stg1_0 : Ref sig .tc).ty.Contents (Elt F)) :
    oPts c d fullShare f ⊢ iprop(∃ f, oPts (F := F) c d fullShare f) := by
  iintro H; iexists f; iexact H

omit [FloatOps F] in
theorem o_somes (c : Dev nD) (f : (cc0_stg1_0 : Ref sig .tc).ty.Contents (Elt F)) :
    (bigSep Finset.univ fun o => oPts (F := F) c (peer c o) fullShare f)
      ⊢ bigSep Finset.univ fun o => iprop(∃ f, oPts (F := F) c (peer c o) fullShare f) :=
  bigSep_mono fun o _ => o_some c (peer c o) f

omit [FloatOps F] in
theorem sort_start (c : Dev nD) (o : (cc0_stg1_0 : Ref sig .tc).ty.Contents (Elt F)) (s : (cc0_scratch0 : Ref sig .tc).ty.Contents (Elt F)) :
    iprop(owing c (O₀ c) ∗ armed c ∗ whole K c o s)
      ⊢ iprop(Signals c 0 ∗ (cred (tallyAt (barCell c) () 31) ∗ atPos ER (barCell c) 0 ∅ 0) ∗ atStart K c) := by
  unfold armed whole tokens credits Signals atStart keep
  rw [rem_zero, opened_fams, sigParts, sendToks, sendToks, ← toWait_all 1 c, ← toWait_all 3 c, x_pieces, o_pieces]
  iintro ⟨HO, ⟨Hb, ⟨⟨Hp0, Hr0⟩, ⟨Hp1, Hr1⟩, ⟨Hp2, Hr2⟩, ⟨Hp3, Hr3⟩⟩, ⟨Htb, Ht0, Ht1, Ht2, Ht3⟩, ⟨Hcb, Hc1, Hc3⟩⟩, ⟨Hx, Hxs⟩, ⟨Ho, Hos⟩, Hs⟩
  ihave Hos := (o_somes c o) $$ Hos
  ihave Hs := (s_pieces c s) $$ Hs
  isplitl [HO Htb Hs Hos Hr1 Hr3]
  · isplitl [HO]; · iexact HO
    isplitl [Htb]; · iexact Htb
    isplitl [Hs]; · iexact Hs
    isplitl [Hos]; · iexact Hos
    isplitl [Hr1]; · iexact Hr1
    iexact Hr3
  isplitl [Hcb Hb]
  · isplitl [Hcb]; · iexact Hcb
    iexact Hb
  isplitl [Hx]; · iexact Hx
  isplitl [Hxs Ht0 Hr0 Ht1]
  · isplitl [Hxs]; · iexact Hxs
    isplitl [Ht0]; · iexact Ht0
    isplitl [Hr0]; · iexact Hr0
    iexact Ht1
  isplitl [Hc1 Hp1]
  · isplitl [Hc1]; · iexact Hc1
    iexact Hp1
  isplitl [Ho]; · iexists o; iexact Ho
  isplitl [Ht2 Hr2 Ht3]
  · isplitl [Ht2]; · iexact Ht2
    isplitl [Hr2]; · iexact Hr2
    iexact Ht3
  isplitl [Hc3 Hp3]
  · isplitl [Hc3]; · iexact Hc3
    iexact Hp3
  isplitl [Hp0]; · iexact Hp0
  iexact Hp2

/-! ## The end -/

omit [FloatOps F] in
theorem landed_some (c : Dev nD) (o : Fin 31) : pay K 1 c o ⊢ iprop(∃ f, sPts c o f) := by
  show iprop(∃ f, ⌜(slotM o).view.read (Elt F) f = chunk K (peer c o) c⌝ ∗ sPts c o f) ⊢ _
  iintro ⟨%f, -, H⟩
  iexists f; iexact H

omit [FloatOps F] in
theorem landed_somes (c : Dev nD) : bigSep Finset.univ (pay K 1 c) ⊢ bigSep Finset.univ fun o => iprop(∃ f, sPts (F := F) c o f) :=
  bigSep_mono fun o _ => landed_some K c o

/-- What a device ends with. -/
def settled (c : Dev nD) : sProp 𝕄 :=
  iprop(owing c 0 ∗ (semVal (barCell c) 0 ∗ Pipeline.ownSems0 osem c)
    ∗ (((c : Thread nD τ).loc cc0_stg0_0) ↦{fullShare} K.X c) ∗ (((c : Thread nD τ).loc cc0_stg1_0) ↦{fullShare} K.R)
    ∗ ∃ s : Buf (Elt F) ((c : Thread nD τ).loc cc0_scratch0), ((c : Thread nD τ).loc cc0_scratch0) ↦{fullShare} s)

omit [FloatOps F] in
theorem settle (c : Dev nD) (s : (cc0_scratch0 : Ref sig .tc).ty.Contents (Elt F)) :
    iprop(env K κ ∗ atEnd K c) ⊢ (iprop(|={Set.univ}=> settled K c) : sProp 𝕄) := by
  unfold atEnd kept
  rw [waited_all, waited_all, waited_all, waited_all]
  iintro ⟨#He, HO, ⟨Hx, Ha, Hd, ⟨Ha1, Hp1⟩⟩, ⟨Ha3, Hp3⟩, ⟨Ha0, Hp0⟩, ⟨Ha2, Hp2⟩⟩
  imod (close_bar K κ c) $$ [Ha] with Hb
  · isplitr; · iexact He
    iexact Ha
  imod (close_all K κ c) $$ [Ha0 Ha1 Ha2 Ha3] with Hs
  · isplitr; · iexact He
    rw [finished_fams]
    isplitl [Ha0]; · iexact Ha0
    isplitl [Ha1]; · iexact Ha1
    isplitl [Ha2]; · iexact Ha2
    iexact Ha3
  imodintro
  ihave Ho := (undeal K c) $$ [Hd Hp2]
  · isplitl [Hd]; · iexact Hd
    iexact Hp2
  ihave Hl := (landed_somes K c) $$ Hp1
  ihave Hl := (s_join c s) $$ Hl
  unfold settled
  rw [x_pieces, o_pieces]
  isplitl [HO]; · iexact HO
  isplitl [Hb Hs]
  · isplitl [Hb]; · iexact Hb
    iexact Hs
  isplitl [Hx Hp0]
  · isplitl [Hx]; · iexact Hx
    iexact Hp0
  isplitl [Ho Hp3]
  · isplitl [Ho]; · iexact Ho
    iexact Hp3
  iexact Hl

end Cert.KernelIdeal.AllReduce

end
-- ==== Proof.KernelIdeal.Body.lean ====
/-
One device's run of the all-reduce, once, at a symbolic device: from `atStart` to `atEnd`.
-/
module

public import proofs.«01_k».proof.Proof.KernelIdeal.States

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (K : Contents F) (κ : GSem nD τ sig → ℕ)

/-- Change the state before a step. -/
theorem before {α : Type} {Q : α → sProp (MT nD τ sig Unit (Elt F) ℕ UU ℕ)} {S S' : sProp (MT nD τ sig Unit (Elt F) ℕ UU ℕ)} {c : Dev nD}
    {p : Prog (TpuEff nD τ sig (Elt F) Λ₀ .tc) α} (hS : S ⊢ S')
    (h : iprop(env K κ ∗ S') ⊢ wp frame (wpE (defs₀ (F := F)) 𝒱₀ (c : Thread nD τ) none) Set.univ p Q) :
    iprop(env K κ ∗ S) ⊢ wp frame (wpE (defs₀ (F := F)) 𝒱₀ (c : Thread nD τ) none) Set.univ p Q :=
  (BIClass.sep_mono (Entails.refl _) hS).trans h

set_option maxRecDepth 65536 in
set_option maxHeartbeats 4000000 in
/-- The run, given that `K.R` holds every device's reduced chunk. -/
theorem run_body (hR : ∀ c, (oRow c).view.read (Elt F) K.R = reduced K c) (c : Dev nD) :
    iprop(env K κ ∗ Signals c 0 ∗ (cred (tallyAt (barCell c) () 31) ∗ atPos ER (barCell c) 0 ∅ 0) ∗ atStart K c)
      ⊢ wp frame (wpE (defs₀ (F := F)) 𝒱₀ (c : Thread nD τ) none) Set.univ
        (cc0_body xM (Memref.isWhole_whole _) oM (Memref.isWhole_whole _) sM (Memref.isWhole_whole _)
          cc0_scratch1 cc0_scratch2 cc0_scratch3 cc0_scratch4) (fun _ => iprop(env K κ ∗ atEnd K c)) := by
  rw [cc0_body_eq_skeleton]; unfold cc0_body_skel
  refine enter fun Φ₀ hΦ₀ => ?_
  rw [k0_part62_eq_skeleton]; unfold k0_part62_skel
  -- part 1
  refine enter fun Φ hΦ => ?_
  rw [k0_part1_eq_skeleton]; unfold k0_part1_skel
  simp only [semSignalWord, semWaitWord, Prog.lift, Prog.bind_op, Prog.bind_ret, Prog.pure_eq_ret, wp_deviceId]
  refine step_signal K κ c _ 0 (Fin.ext (k0_dev1_eq c)) rfl ?_
  refine step_signal K κ c _ 1 (Fin.ext (k0_dev2_eq c)) rfl ?_
  refine step_signal K κ c _ 2 (Fin.ext (k0_dev3_eq c)) rfl ?_
  refine step_signal K κ c _ 3 (Fin.ext (k0_dev4_eq c)) rfl ?_
  refine step_signal K κ c _ 4 (Fin.ext (k0_dev5_eq c)) rfl ?_
  refine leave hΦ ?_
  clear hΦ Φ
  -- part 2
  refine enter fun Φ hΦ => ?_
  rw [k0_part2_eq_skeleton]; unfold k0_part2_skel
  simp only [semSignalWord, semWaitWord, Prog.lift, Prog.bind_op, Prog.bind_ret, Prog.pure_eq_ret, wp_deviceId]
  refine step_signal K κ c _ 5 (Fin.ext (k0_dev6_eq c)) rfl ?_
  refine step_signal K κ c _ 6 (Fin.ext (k0_dev7_eq c)) rfl ?_
  refine step_signal K κ c _ 7 (Fin.ext (k0_dev8_eq c)) rfl ?_
  refine step_signal K κ c _ 8 (Fin.ext (k0_dev9_eq c)) rfl ?_
  refine step_signal K κ c _ 9 (Fin.ext (k0_dev10_eq c)) rfl ?_
  refine step_signal K κ c _ 10 (Fin.ext (k0_dev11_eq c)) rfl ?_
  refine leave hΦ ?_
  clear hΦ Φ
  -- part 3
  refine enter fun Φ hΦ => ?_
  rw [k0_part3_eq_skeleton]; unfold k0_part3_skel
  simp only [semSignalWord, semWaitWord, Prog.lift, Prog.bind_op, Prog.bind_ret, Prog.pure_eq_ret, wp_deviceId]
  refine step_signal K κ c _ 11 (Fin.ext (k0_dev12_eq c)) rfl ?_
  refine step_signal K κ c _ 12 (Fin.ext (k0_dev13_eq c)) rfl ?_
  refine step_signal K κ c _ 13 (Fin.ext (k0_dev14_eq c)) rfl ?_
  refine step_signal K κ c _ 14 (Fin.ext (k0_dev15_eq c)) rfl ?_
  refine step_signal K κ c _ 15 (Fin.ext (k0_dev16_eq c)) rfl ?_
  refine step_signal K κ c _ 16 (Fin.ext (k0_dev17_eq c)) rfl ?_
  refine leave hΦ ?_
  clear hΦ Φ
  -- part 4
  refine enter fun Φ hΦ => ?_
  rw [k0_part4_eq_skeleton]; unfold k0_part4_skel
  simp only [semSignalWord, semWaitWord, Prog.lift, Prog.bind_op, Prog.bind_ret, Prog.pure_eq_ret, wp_deviceId]
  refine step_signal K κ c _ 17 (Fin.ext (k0_dev18_eq c)) rfl ?_
  refine step_signal K κ c _ 18 (Fin.ext (k0_dev19_eq c)) rfl ?_
  refine step_signal K κ c _ 19 (Fin.ext (k0_dev20_eq c)) rfl ?_
  refine step_signal K κ c _ 20 (Fin.ext (k0_dev21_eq c)) rfl ?_
  refine step_signal K κ c _ 21 (Fin.ext (k0_dev22_eq c)) rfl ?_
  refine step_signal K κ c _ 22 (Fin.ext (k0_dev23_eq c)) rfl ?_
  refine leave hΦ ?_
  clear hΦ Φ
  -- part 5
  refine enter fun Φ hΦ => ?_
  rw [k0_part5_eq_skeleton]; unfold k0_part5_skel
  simp only [semSignalWord, semWaitWord, Prog.lift, Prog.bind_op, Prog.bind_ret, Prog.pure_eq_ret, wp_deviceId]
  refine step_signal K κ c _ 23 (Fin.ext (k0_dev24_eq c)) rfl ?_
  refine step_signal K κ c _ 24 (Fin.ext (k0_dev25_eq c)) rfl ?_
  refine step_signal K κ c _ 25 (Fin.ext (k0_dev26_eq c)) rfl ?_
  refine step_signal K κ c _ 26 (Fin.ext (k0_dev27_eq c)) rfl ?_
  refine step_signal K κ c _ 27 (Fin.ext (k0_dev28_eq c)) rfl ?_
  refine step_signal K κ c _ 28 (Fin.ext (k0_dev29_eq c)) rfl ?_
  refine leave hΦ ?_
  clear hΦ Φ
  -- part 6
  refine enter fun Φ hΦ => ?_
  rw [k0_part6_eq_skeleton]; unfold k0_part6_skel
  simp only [semSignalWord, semWaitWord, Prog.lift, Prog.bind_op, Prog.bind_ret, Prog.pure_eq_ret, wp_deviceId]
  refine step_signal K κ c _ 29 (Fin.ext (k0_dev30_eq c)) rfl ?_
  refine step_signal K κ c _ 30 (Fin.ext (k0_dev31_eq c)) rfl ?_
  refine before K κ (show _ ⊢ iprop((Signals (F := F) c 31 ∗ cred (tallyAt (barCell c) () 31) ∗ atPos ER (barCell c) 0 ∅ 0) ∗ atStart K c) from sep_assoc.2) ?_
  refine step_barrier K κ c rfl ?_
  refine before K κ (to_firsts K c) ?_
  refine step_first K κ c _ 0 (Fin.ext (k0_dev32_eq c)) _ (k0_off1_eq c 0) _ _ rfl _ _ _ rfl rfl ?_
  refine leave hΦ ?_
  clear hΦ Φ
  -- part 7
  refine enter fun Φ hΦ => ?_
  rw [k0_part7_eq_skeleton]; unfold k0_part7_skel
  simp only [semSignalWord, semWaitWord, Prog.lift, Prog.bind_op, Prog.bind_ret, Prog.pure_eq_ret, wp_deviceId]
  refine step_first K κ c _ 1 (Fin.ext (k0_dev33_eq c)) _ (k0_off1_eq c 1) _ _ rfl _ _ _ rfl rfl ?_
  refine step_first K κ c _ 2 (Fin.ext (k0_dev34_eq c)) _ (k0_off1_eq c 2) _ _ rfl _ _ _ rfl rfl ?_
  refine step_first K κ c _ 3 (Fin.ext (k0_dev35_eq c)) _ (k0_off1_eq c 3) _ _ rfl _ _ _ rfl rfl ?_
  refine leave hΦ ?_
  clear hΦ Φ
  -- part 8
  refine enter fun Φ hΦ => ?_
  rw [k0_part8_eq_skeleton]; unfold k0_part8_skel
  simp only [semSignalWord, semWaitWord, Prog.lift, Prog.bind_op, Prog.bind_ret, Prog.pure_eq_ret, wp_deviceId]
  refine step_first K κ c _ 4 (Fin.ext (k0_dev36_eq c)) _ (k0_off1_eq c 4) _ _ rfl _ _ _ rfl rfl ?_
  refine step_first K κ c _ 5 (Fin.ext (k0_dev37_eq c)) _ (k0_off1_eq c 5) _ _ rfl _ _ _ rfl rfl ?_
  refine leave hΦ ?_
  clear hΦ Φ
  -- part 9
  refine enter fun Φ hΦ => ?_
  rw [k0_part9_eq_skeleton]; unfold k0_part9_skel
  simp only [semSignalWord, semWaitWord, Prog.lift, Prog.bind_op, Prog.bind_ret, Prog.pure_eq_ret, wp_deviceId]
  refine step_first K κ c _ 6 (Fin.ext (k0_dev38_eq c)) _ (k0_off1_eq c 6) _ _ rfl _ _ _ rfl rfl ?_
  refine step_first K κ c _ 7 (Fin.ext (k0_dev39_eq c)) _ (k0_off1_eq c 7) _ _ rfl _ _ _ rfl rfl ?_
  refine step_first K κ c _ 8 (Fin.ext (k0_dev40_eq c)) _ (k0_off1_eq c 8) _ _ rfl _ _ _ rfl rfl ?_
  refine leave hΦ ?_
  clear hΦ Φ
  -- part 10
  refine enter fun Φ hΦ => ?_
  rw [k0_part10_eq_skeleton]; unfold k0_part10_skel
  simp only [semSignalWord, semWaitWord, Prog.lift, Prog.bind_op, Prog.bind_ret, Prog.pure_eq_ret, wp_deviceId]
  refine step_first K κ c _ 9 (Fin.ext (k0_dev41_eq c)) _ (k0_off1_eq c 9) _ _ rfl _ _ _ rfl rfl ?_
  refine step_first K κ c _ 10 (Fin.ext (k0_dev42_eq c)) _ (k0_off1_eq c 10) _ _ rfl _ _ _ rfl rfl ?_
  refine leave hΦ ?_
  clear hΦ Φ
  -- part 11
  refine enter fun Φ hΦ => ?_
  rw [k0_part11_eq_skeleton]; unfold k0_part11_skel
  simp only [semSignalWord, semWaitWord, Prog.lift, Prog.bind_op, Prog.bind_ret, Prog.pure_eq_ret, wp_deviceId]
  refine step_first K κ c _ 11 (Fin.ext (k0_dev43_eq c)) _ (k0_off1_eq c 11) _ _ rfl _ _ _ rfl rfl ?_
  refine step_first K κ c _ 12 (Fin.ext (k0_dev44_eq c)) _ (k0_off1_eq c 12) _ _ rfl _ _ _ rfl rfl ?_
  refine step_first K κ c _ 13 (Fin.ext (k0_dev45_eq c)) _ (k0_off1_eq c 13) _ _ rfl _ _ _ rfl rfl ?_
  refine leave hΦ ?_
  clear hΦ Φ
  -- part 12
  refine enter fun Φ hΦ => ?_
  rw [k0_part12_eq_skeleton]; unfold k0_part12_skel
  simp only [semSignalWord, semWaitWord, Prog.lift, Prog.bind_op, Prog.bind_ret, Prog.pure_eq_ret, wp_deviceId]
  refine step_first K κ c _ 14 (Fin.ext (k0_dev46_eq c)) _ (k0_off1_eq c 14) _ _ rfl _ _ _ rfl rfl ?_
  refine step_first K κ c _ 15 (Fin.ext (k0_dev47_eq c)) _ (k0_off1_eq c 15) _ _ rfl _ _ _ rfl rfl ?_
  refine leave hΦ ?_
  clear hΦ Φ
  -- part 13
  refine enter fun Φ hΦ => ?_
  rw [k0_part13_eq_skeleton]; unfold k0_part13_skel
  simp only [semSignalWord, semWaitWord, Prog.lift, Prog.bind_op, Prog.bind_ret, Prog.pure_eq_ret, wp_deviceId]
  refine step_first K κ c _ 16 (Fin.ext (k0_dev48_eq c)) _ (k0_off1_eq c 16) _ _ rfl _ _ _ rfl rfl ?_
  refine step_first K κ c _ 17 (Fin.ext (k0_dev49_eq c)) _ (k0_off1_eq c 17) _ _ rfl _ _ _ rfl rfl ?_
  refine step_first K κ c _ 18 (Fin.ext (k0_dev50_eq c)) _ (k0_off1_eq c 18) _ _ rfl _ _ _ rfl rfl ?_
  refine leave hΦ ?_
  clear hΦ Φ
  -- part 14
  refine enter fun Φ hΦ => ?_
  rw [k0_part14_eq_skeleton]; unfold k0_part14_skel
  simp only [semSignalWord, semWaitWord, Prog.lift, Prog.bind_op, Prog.bind_ret, Prog.pure_eq_ret, wp_deviceId]
  refine step_first K κ c _ 19 (Fin.ext (k0_dev51_eq c)) _ (k0_off1_eq c 19) _ _ rfl _ _ _ rfl rfl ?_
  refine step_first K κ c _ 20 (Fin.ext (k0_dev52_eq c)) _ (k0_off1_eq c 20) _ _ rfl _ _ _ rfl rfl ?_
  refine leave hΦ ?_
  clear hΦ Φ
  -- part 15
  refine enter fun Φ hΦ => ?_
  rw [k0_part15_eq_skeleton]; unfold k0_part15_skel
  simp only [semSignalWord, semWaitWord, Prog.lift, Prog.bind_op, Prog.bind_ret, Prog.pure_eq_ret, wp_deviceId]
  refine step_first K κ c _ 21 (Fin.ext (k0_dev53_eq c)) _ (k0_off1_eq c 21) _ _ rfl _ _ _ rfl rfl ?_
  refine step_first K κ c _ 22 (Fin.ext (k0_dev54_eq c)) _ (k0_off1_eq c 22) _ _ rfl _ _ _ rfl rfl ?_
  refine step_first K κ c _ 23 (Fin.ext (k0_dev55_eq c)) _ (k0_off1_eq c 23) _ _ rfl _ _ _ rfl rfl ?_
  refine leave hΦ ?_
  clear hΦ Φ
  -- part 16
  refine enter fun Φ hΦ => ?_
  rw [k0_part16_eq_skeleton]; unfold k0_part16_skel
  simp only [semSignalWord, semWaitWord, Prog.lift, Prog.bind_op, Prog.bind_ret, Prog.pure_eq_ret, wp_deviceId]
  refine step_first K κ c _ 24 (Fin.ext (k0_dev56_eq c)) _ (k0_off1_eq c 24) _ _ rfl _ _ _ rfl rfl ?_
  refine step_first K κ c _ 25 (Fin.ext (k0_dev57_eq c)) _ (k0_off1_eq c 25) _ _ rfl _ _ _ rfl rfl ?_
  refine leave hΦ ?_
  clear hΦ Φ
  -- part 17
  refine enter fun Φ hΦ => ?_
  rw [k0_part17_eq_skeleton]; unfold k0_part17_skel
  simp only [semSignalWord, semWaitWord, Prog.lift, Prog.bind_op, Prog.bind_ret, Prog.pure_eq_ret, wp_deviceId]
  refine step_first K κ c _ 26 (Fin.ext (k0_dev58_eq c)) _ (k0_off1_eq c 26) _ _ rfl _ _ _ rfl rfl ?_
  refine step_first K κ c _ 27 (Fin.ext (k0_dev59_eq c)) _ (k0_off1_eq c 27) _ _ rfl _ _ _ rfl rfl ?_
  refine step_first K κ c _ 28 (Fin.ext (k0_dev60_eq c)) _ (k0_off1_eq c 28) _ _ rfl _ _ _ rfl rfl ?_
  refine leave hΦ ?_
  clear hΦ Φ
  -- part 18
  refine enter fun Φ hΦ => ?_
  rw [k0_part18_eq_skeleton]; unfold k0_part18_skel
  simp only [semSignalWord, semWaitWord, Prog.lift, Prog.bind_op, Prog.bind_ret, Prog.pure_eq_ret, wp_deviceId]
  refine step_first K κ c _ 29 (Fin.ext (k0_dev61_eq c)) _ (k0_off1_eq c 29) _ _ rfl _ _ _ rfl rfl ?_
  refine step_first K κ c _ 30 (Fin.ext (k0_dev62_eq c)) _ (k0_off1_eq c 30) _ _ rfl _ _ _ rfl rfl ?_
  refine before K κ (to_own K c) ?_
  refine step_own K κ c _ (k0_off2_eq c) _ ?_
  refine before K κ (to_downs K c) ?_
  refine leave hΦ ?_
  clear hΦ Φ
  -- part 19
  refine enter fun Φ hΦ => ?_
  rw [k0_part19_eq_skeleton]; unfold k0_part19_skel
  simp only [semSignalWord, semWaitWord, Prog.lift, Prog.bind_op, Prog.bind_ret, Prog.pure_eq_ret, wp_deviceId]
  refine step_down K κ c 30 (credit_land _ _) rfl ?_
  refine step_down K κ c 29 (credit_land _ _) rfl ?_
  refine step_down K κ c 28 (credit_land _ _) rfl ?_
  refine leave hΦ ?_
  clear hΦ Φ
  -- part 20
  refine enter fun Φ hΦ => ?_
  rw [k0_part20_eq_skeleton]; unfold k0_part20_skel
  simp only [semSignalWord, semWaitWord, Prog.lift, Prog.bind_op, Prog.bind_ret, Prog.pure_eq_ret, wp_deviceId]
  refine step_down K κ c 27 (credit_land _ _) rfl ?_
  refine step_down K κ c 26 (credit_land _ _) rfl ?_
  refine step_down K κ c 25 (credit_land _ _) rfl ?_
  refine leave hΦ ?_
  clear hΦ Φ
  -- part 21
  refine enter fun Φ hΦ => ?_
  rw [k0_part21_eq_skeleton]; unfold k0_part21_skel
  simp only [semSignalWord, semWaitWord, Prog.lift, Prog.bind_op, Prog.bind_ret, Prog.pure_eq_ret, wp_deviceId]
  refine step_down K κ c 24 (credit_land _ _) rfl ?_
  refine step_down K κ c 23 (credit_land _ _) rfl ?_
  refine step_down K κ c 22 (credit_land _ _) rfl ?_
  refine leave hΦ ?_
  clear hΦ Φ
  -- part 22
  refine enter fun Φ hΦ => ?_
  rw [k0_part22_eq_skeleton]; unfold k0_part22_skel
  simp only [semSignalWord, semWaitWord, Prog.lift, Prog.bind_op, Prog.bind_ret, Prog.pure_eq_ret, wp_deviceId]
  refine step_down K κ c 21 (credit_land _ _) rfl ?_
  refine step_down K κ c 20 (credit_land _ _) rfl ?_
  refine step_down K κ c 19 (credit_land _ _) rfl ?_
  refine step_down K κ c 18 (credit_land _ _) rfl ?_
  refine leave hΦ ?_
  clear hΦ Φ
  -- part 23
  refine enter fun Φ hΦ => ?_
  rw [k0_part23_eq_skeleton]; unfold k0_part23_skel
  simp only [semSignalWord, semWaitWord, Prog.lift, Prog.bind_op, Prog.bind_ret, Prog.pure_eq_ret, wp_deviceId]
  refine step_down K κ c 17 (credit_land _ _) rfl ?_
  refine step_down K κ c 16 (credit_land _ _) rfl ?_
  refine step_landed K κ c 30 (by decide) rfl ?_
  refine step_landed K κ c 29 (by decide) rfl ?_
  refine step_landed K κ c 28 (by decide) rfl ?_
  refine step_landed K κ c 27 (by decide) rfl ?_
  refine leave hΦ ?_
  clear hΦ Φ
  -- part 24
  refine enter fun Φ hΦ => ?_
  rw [k0_part24_eq_skeleton]; unfold k0_part24_skel
  simp only [semSignalWord, semWaitWord, Prog.lift, Prog.bind_op, Prog.bind_ret, Prog.pure_eq_ret, wp_deviceId]
  refine step_landed K κ c 26 (by decide) rfl ?_
  refine step_landed K κ c 25 (by decide) rfl ?_
  refine step_landed K κ c 24 (by decide) rfl ?_
  refine step_landed K κ c 23 (by decide) rfl ?_
  refine step_landed K κ c 22 (by decide) rfl ?_
  refine step_landed K κ c 21 (by decide) rfl ?_
  refine step_landed K κ c 20 (by decide) rfl ?_
  refine step_landed K κ c 19 (by decide) rfl ?_
  refine step_landed K κ c 18 (by decide) rfl ?_
  refine step_landed K κ c 17 (by decide) rfl ?_
  refine leave hΦ ?_
  clear hΦ Φ
  -- part 25
  refine enter fun Φ hΦ => ?_
  rw [k0_part25_eq_skeleton]; unfold k0_part25_skel
  simp only [semSignalWord, semWaitWord, Prog.lift, Prog.bind_op, Prog.bind_ret, Prog.pure_eq_ret, wp_deviceId]
  refine step_landed K κ c 16 (by decide) rfl ?_
  refine step_down K κ c 15 (credit_land _ _) rfl ?_
  refine step_down K κ c 14 (credit_land _ _) rfl ?_
  refine leave hΦ ?_
  clear hΦ Φ
  -- part 26
  refine enter fun Φ hΦ => ?_
  rw [k0_part26_eq_skeleton]; unfold k0_part26_skel
  simp only [semSignalWord, semWaitWord, Prog.lift, Prog.bind_op, Prog.bind_ret, Prog.pure_eq_ret, wp_deviceId]
  refine step_down K κ c 13 (credit_land _ _) rfl ?_
  refine step_down K κ c 12 (credit_land _ _) rfl ?_
  refine step_down K κ c 11 (credit_land _ _) rfl ?_
  refine leave hΦ ?_
  clear hΦ Φ
  -- part 27
  refine enter fun Φ hΦ => ?_
  rw [k0_part27_eq_skeleton]; unfold k0_part27_skel
  simp only [semSignalWord, semWaitWord, Prog.lift, Prog.bind_op, Prog.bind_ret, Prog.pure_eq_ret, wp_deviceId]
  refine step_down K κ c 10 (credit_land _ _) rfl ?_
  refine step_down K κ c 9 (credit_land _ _) rfl ?_
  refine step_down K κ c 8 (credit_land _ _) rfl ?_
  refine leave hΦ ?_
  clear hΦ Φ
  -- part 28
  refine enter fun Φ hΦ => ?_
  rw [k0_part28_eq_skeleton]; unfold k0_part28_skel
  simp only [semSignalWord, semWaitWord, Prog.lift, Prog.bind_op, Prog.bind_ret, Prog.pure_eq_ret, wp_deviceId]
  refine step_down K κ c 7 (credit_land _ _) rfl ?_
  refine step_down K κ c 6 (credit_land _ _) rfl ?_
  refine step_down K κ c 5 (credit_land _ _) rfl ?_
  refine leave hΦ ?_
  clear hΦ Φ
  -- part 29
  refine enter fun Φ hΦ => ?_
  rw [k0_part29_eq_skeleton]; unfold k0_part29_skel
  simp only [semSignalWord, semWaitWord, Prog.lift, Prog.bind_op, Prog.bind_ret, Prog.pure_eq_ret, wp_deviceId]
  refine step_down K κ c 4 (credit_land _ _) rfl ?_
  refine step_down K κ c 3 (credit_land _ _) rfl ?_
  refine step_down K κ c 2 (credit_land _ _) rfl ?_
  refine leave hΦ ?_
  clear hΦ Φ
  -- part 30
  refine enter fun Φ hΦ => ?_
  rw [k0_part30_eq_skeleton]; unfold k0_part30_skel
  simp only [semSignalWord, semWaitWord, Prog.lift, Prog.bind_op, Prog.bind_ret, Prog.pure_eq_ret, wp_deviceId]
  refine step_down K κ c 1 (credit_land _ _) rfl ?_
  refine step_down K κ c 0 (credit_land _ _) rfl ?_
  refine step_landed K κ c 15 (by decide) rfl ?_
  refine step_landed K κ c 14 (by decide) rfl ?_
  refine step_landed K κ c 13 (by decide) rfl ?_
  refine step_landed K κ c 12 (by decide) rfl ?_
  refine step_landed K κ c 11 (by decide) rfl ?_
  refine step_landed K κ c 10 (by decide) rfl ?_
  refine leave hΦ ?_
  clear hΦ Φ
  -- part 31
  refine enter fun Φ hΦ => ?_
  rw [k0_part31_eq_skeleton]; unfold k0_part31_skel
  simp only [semSignalWord, semWaitWord, Prog.lift, Prog.bind_op, Prog.bind_ret, Prog.pure_eq_ret, wp_deviceId]
  refine step_landed K κ c 9 (by decide) rfl ?_
  refine step_landed K κ c 8 (by decide) rfl ?_
  refine step_landed K κ c 7 (by decide) rfl ?_
  refine step_landed K κ c 6 (by decide) rfl ?_
  refine step_landed K κ c 5 (by decide) rfl ?_
  refine step_landed K κ c 4 (by decide) rfl ?_
  refine step_landed K κ c 3 (by decide) rfl ?_
  refine step_landed K κ c 2 (by decide) rfl ?_
  refine step_landed K κ c 1 (by decide) rfl ?_
  refine step_landed K κ c 0 (by decide) rfl ?_
  refine leave hΦ ?_
  clear hΦ Φ
  -- part 32
  refine enter fun Φ hΦ => ?_
  rw [k0_part32_eq_skeleton]; unfold k0_part32_skel
  simp only [semSignalWord, semWaitWord, Prog.lift, Prog.bind_op, Prog.bind_ret, Prog.pure_eq_ret, wp_deviceId]
  refine before K κ (to_store K c) ?_
  refine step_look K κ c _ (k0_off2_eq c) _ fun _ => ?_
  refine step_store K κ c _ (k0_off2_eq c) _ _ (hR c) ?_
  refine before K κ (to_seconds K c) ?_
  refine step_second K κ c _ 0 (Fin.ext (k0_dev63_eq c)) _ (k0_off3_eq c) _ _ _ _ rfl rfl ?_
  refine step_second K κ c _ 1 (Fin.ext (k0_dev64_eq c)) _ (k0_off3_eq c) _ _ _ _ rfl rfl ?_
  refine leave hΦ ?_
  clear hΦ Φ
  -- part 33
  refine enter fun Φ hΦ => ?_
  rw [k0_part33_eq_skeleton]; unfold k0_part33_skel
  simp only [semSignalWord, semWaitWord, Prog.lift, Prog.bind_op, Prog.bind_ret, Prog.pure_eq_ret, wp_deviceId]
  refine step_second K κ c _ 2 (Fin.ext (k0_dev65_eq c)) _ (k0_off3_eq c) _ _ _ _ rfl rfl ?_
  refine step_second K κ c _ 3 (Fin.ext (k0_dev66_eq c)) _ (k0_off3_eq c) _ _ _ _ rfl rfl ?_
  refine step_second K κ c _ 4 (Fin.ext (k0_dev67_eq c)) _ (k0_off3_eq c) _ _ _ _ rfl rfl ?_
  refine leave hΦ ?_
  clear hΦ Φ
  -- part 34
  refine enter fun Φ hΦ => ?_
  rw [k0_part34_eq_skeleton]; unfold k0_part34_skel
  simp only [semSignalWord, semWaitWord, Prog.lift, Prog.bind_op, Prog.bind_ret, Prog.pure_eq_ret, wp_deviceId]
  refine step_second K κ c _ 5 (Fin.ext (k0_dev68_eq c)) _ (k0_off3_eq c) _ _ _ _ rfl rfl ?_
  refine step_second K κ c _ 6 (Fin.ext (k0_dev69_eq c)) _ (k0_off3_eq c) _ _ _ _ rfl rfl ?_
  refine step_second K κ c _ 7 (Fin.ext (k0_dev70_eq c)) _ (k0_off3_eq c) _ _ _ _ rfl rfl ?_
  refine leave hΦ ?_
  clear hΦ Φ
  -- part 35
  refine enter fun Φ hΦ => ?_
  rw [k0_part35_eq_skeleton]; unfold k0_part35_skel
  simp only [semSignalWord, semWaitWord, Prog.lift, Prog.bind_op, Prog.bind_ret, Prog.pure_eq_ret, wp_deviceId]
  refine step_second K κ c _ 8 (Fin.ext (k0_dev71_eq c)) _ (k0_off3_eq c) _ _ _ _ rfl rfl ?_
  refine step_second K κ c _ 9 (Fin.ext (k0_dev72_eq c)) _ (k0_off3_eq c) _ _ _ _ rfl rfl ?_
  refine step_second K κ c _ 10 (Fin.ext (k0_dev73_eq c)) _ (k0_off3_eq c) _ _ _ _ rfl rfl ?_
  refine leave hΦ ?_
  clear hΦ Φ
  -- part 36
  refine enter fun Φ hΦ => ?_
  rw [k0_part36_eq_skeleton]; unfold k0_part36_skel
  simp only [semSignalWord, semWaitWord, Prog.lift, Prog.bind_op, Prog.bind_ret, Prog.pure_eq_ret, wp_deviceId]
  refine step_second K κ c _ 11 (Fin.ext (k0_dev74_eq c)) _ (k0_off3_eq c) _ _ _ _ rfl rfl ?_
  refine step_second K κ c _ 12 (Fin.ext (k0_dev75_eq c)) _ (k0_off3_eq c) _ _ _ _ rfl rfl ?_
  refine step_second K κ c _ 13 (Fin.ext (k0_dev76_eq c)) _ (k0_off3_eq c) _ _ _ _ rfl rfl ?_
  refine leave hΦ ?_
  clear hΦ Φ
  -- part 37
  refine enter fun Φ hΦ => ?_
  rw [k0_part37_eq_skeleton]; unfold k0_part37_skel
  simp only [semSignalWord, semWaitWord, Prog.lift, Prog.bind_op, Prog.bind_ret, Prog.pure_eq_ret, wp_deviceId]
  refine step_second K κ c _ 14 (Fin.ext (k0_dev77_eq c)) _ (k0_off3_eq c) _ _ _ _ rfl rfl ?_
  refine step_second K κ c _ 15 (Fin.ext (k0_dev78_eq c)) _ (k0_off3_eq c) _ _ _ _ rfl rfl ?_
  refine step_second K κ c _ 16 (Fin.ext (k0_dev79_eq c)) _ (k0_off3_eq c) _ _ _ _ rfl rfl ?_
  refine leave hΦ ?_
  clear hΦ Φ
  -- part 38
  refine enter fun Φ hΦ => ?_
  rw [k0_part38_eq_skeleton]; unfold k0_part38_skel
  simp only [semSignalWord, semWaitWord, Prog.lift, Prog.bind_op, Prog.bind_ret, Prog.pure_eq_ret, wp_deviceId]
  refine step_second K κ c _ 17 (Fin.ext (k0_dev80_eq c)) _ (k0_off3_eq c) _ _ _ _ rfl rfl ?_
  refine step_second K κ c _ 18 (Fin.ext (k0_dev81_eq c)) _ (k0_off3_eq c) _ _ _ _ rfl rfl ?_
  refine step_second K κ c _ 19 (Fin.ext (k0_dev82_eq c)) _ (k0_off3_eq c) _ _ _ _ rfl rfl ?_
  refine leave hΦ ?_
  clear hΦ Φ
  -- part 39
  refine enter fun Φ hΦ => ?_
  rw [k0_part39_eq_skeleton]; unfold k0_part39_skel
  simp only [semSignalWord, semWaitWord, Prog.lift, Prog.bind_op, Prog.bind_ret, Prog.pure_eq_ret, wp_deviceId]
  refine step_second K κ c _ 20 (Fin.ext (k0_dev83_eq c)) _ (k0_off3_eq c) _ _ _ _ rfl rfl ?_
  refine step_second K κ c _ 21 (Fin.ext (k0_dev84_eq c)) _ (k0_off3_eq c) _ _ _ _ rfl rfl ?_
  refine step_second K κ c _ 22 (Fin.ext (k0_dev85_eq c)) _ (k0_off3_eq c) _ _ _ _ rfl rfl ?_
  refine step_second K κ c _ 23 (Fin.ext (k0_dev86_eq c)) _ (k0_off3_eq c) _ _ _ _ rfl rfl ?_
  refine leave hΦ ?_
  clear hΦ Φ
  -- part 40
  refine enter fun Φ hΦ => ?_
  rw [k0_part40_eq_skeleton]; unfold k0_part40_skel
  simp only [semSignalWord, semWaitWord, Prog.lift, Prog.bind_op, Prog.bind_ret, Prog.pure_eq_ret, wp_deviceId]
  refine step_second K κ c _ 24 (Fin.ext (k0_dev87_eq c)) _ (k0_off3_eq c) _ _ _ _ rfl rfl ?_
  refine step_second K κ c _ 25 (Fin.ext (k0_dev88_eq c)) _ (k0_off3_eq c) _ _ _ _ rfl rfl ?_
  refine step_second K κ c _ 26 (Fin.ext (k0_dev89_eq c)) _ (k0_off3_eq c) _ _ _ _ rfl rfl ?_
  refine leave hΦ ?_
  clear hΦ Φ
  -- part 41
  refine enter fun Φ hΦ => ?_
  rw [k0_part41_eq_skeleton]; unfold k0_part41_skel
  simp only [semSignalWord, semWaitWord, Prog.lift, Prog.bind_op, Prog.bind_ret, Prog.pure_eq_ret, wp_deviceId]
  refine step_second K κ c _ 27 (Fin.ext (k0_dev90_eq c)) _ (k0_off3_eq c) _ _ _ _ rfl rfl ?_
  refine step_second K κ c _ 28 (Fin.ext (k0_dev91_eq c)) _ (k0_off3_eq c) _ _ _ _ rfl rfl ?_
  refine step_second K κ c _ 29 (Fin.ext (k0_dev92_eq c)) _ (k0_off3_eq c) _ _ _ _ rfl rfl ?_
  refine leave hΦ ?_
  clear hΦ Φ
  -- part 42
  refine enter fun Φ hΦ => ?_
  rw [k0_part42_eq_skeleton]; unfold k0_part42_skel
  simp only [semSignalWord, semWaitWord, Prog.lift, Prog.bind_op, Prog.bind_ret, Prog.pure_eq_ret, wp_deviceId]
  refine step_second K κ c _ 30 (Fin.ext (k0_dev93_eq c)) _ (k0_off3_eq c) _ _ _ _ rfl rfl ?_
  refine before K κ (to_gathered K c) ?_
  refine step_up K κ 3 c 0 3 (by decide) (credit_row _ _) rfl ?_
  refine step_up K κ 3 c 1 3 (by decide) (credit_row _ _) rfl ?_
  refine leave hΦ ?_
  clear hΦ Φ
  -- part 43
  refine enter fun Φ hΦ => ?_
  rw [k0_part43_eq_skeleton]; unfold k0_part43_skel
  simp only [semSignalWord, semWaitWord, Prog.lift, Prog.bind_op, Prog.bind_ret, Prog.pure_eq_ret, wp_deviceId]
  refine step_up K κ 3 c 2 3 (by decide) (credit_row _ _) rfl ?_
  refine step_up K κ 3 c 3 3 (by decide) (credit_row _ _) rfl ?_
  refine step_up K κ 3 c 4 3 (by decide) (credit_row _ _) rfl ?_
  refine step_up K κ 3 c 5 3 (by decide) (credit_row _ _) rfl ?_
  refine leave hΦ ?_
  clear hΦ Φ
  -- part 44
  refine enter fun Φ hΦ => ?_
  rw [k0_part44_eq_skeleton]; unfold k0_part44_skel
  simp only [semSignalWord, semWaitWord, Prog.lift, Prog.bind_op, Prog.bind_ret, Prog.pure_eq_ret, wp_deviceId]
  refine step_up K κ 3 c 6 3 (by decide) (credit_row _ _) rfl ?_
  refine step_up K κ 3 c 7 3 (by decide) (credit_row _ _) rfl ?_
  refine step_up K κ 3 c 8 3 (by decide) (credit_row _ _) rfl ?_
  refine leave hΦ ?_
  clear hΦ Φ
  -- part 45
  refine enter fun Φ hΦ => ?_
  rw [k0_part45_eq_skeleton]; unfold k0_part45_skel
  simp only [semSignalWord, semWaitWord, Prog.lift, Prog.bind_op, Prog.bind_ret, Prog.pure_eq_ret, wp_deviceId]
  refine step_up K κ 3 c 9 3 (by decide) (credit_row _ _) rfl ?_
  refine step_up K κ 3 c 10 3 (by decide) (credit_row _ _) rfl ?_
  refine step_up K κ 3 c 11 3 (by decide) (credit_row _ _) rfl ?_
  refine step_up K κ 3 c 12 3 (by decide) (credit_row _ _) rfl ?_
  refine leave hΦ ?_
  clear hΦ Φ
  -- part 46
  refine enter fun Φ hΦ => ?_
  rw [k0_part46_eq_skeleton]; unfold k0_part46_skel
  simp only [semSignalWord, semWaitWord, Prog.lift, Prog.bind_op, Prog.bind_ret, Prog.pure_eq_ret, wp_deviceId]
  refine step_up K κ 3 c 13 3 (by decide) (credit_row _ _) rfl ?_
  refine step_up K κ 3 c 14 3 (by decide) (credit_row _ _) rfl ?_
  refine step_up K κ 3 c 15 3 (by decide) (credit_row _ _) rfl ?_
  refine step_up K κ 3 c 16 3 (by decide) (credit_row _ _) rfl ?_
  refine leave hΦ ?_
  clear hΦ Φ
  -- part 47
  refine enter fun Φ hΦ => ?_
  rw [k0_part47_eq_skeleton]; unfold k0_part47_skel
  simp only [semSignalWord, semWaitWord, Prog.lift, Prog.bind_op, Prog.bind_ret, Prog.pure_eq_ret, wp_deviceId]
  refine step_up K κ 3 c 17 3 (by decide) (credit_row _ _) rfl ?_
  refine step_up K κ 3 c 18 3 (by decide) (credit_row _ _) rfl ?_
  refine step_up K κ 3 c 19 3 (by decide) (credit_row _ _) rfl ?_
  refine leave hΦ ?_
  clear hΦ Φ
  -- part 48
  refine enter fun Φ hΦ => ?_
  rw [k0_part48_eq_skeleton]; unfold k0_part48_skel
  simp only [semSignalWord, semWaitWord, Prog.lift, Prog.bind_op, Prog.bind_ret, Prog.pure_eq_ret, wp_deviceId]
  refine step_up K κ 3 c 20 3 (by decide) (credit_row _ _) rfl ?_
  refine step_up K κ 3 c 21 3 (by decide) (credit_row _ _) rfl ?_
  refine step_up K κ 3 c 22 3 (by decide) (credit_row _ _) rfl ?_
  refine step_up K κ 3 c 23 3 (by decide) (credit_row _ _) rfl ?_
  refine leave hΦ ?_
  clear hΦ Φ
  -- part 49
  refine enter fun Φ hΦ => ?_
  rw [k0_part49_eq_skeleton]; unfold k0_part49_skel
  simp only [semSignalWord, semWaitWord, Prog.lift, Prog.bind_op, Prog.bind_ret, Prog.pure_eq_ret, wp_deviceId]
  refine step_up K κ 3 c 24 3 (by decide) (credit_row _ _) rfl ?_
  refine step_up K κ 3 c 25 3 (by decide) (credit_row _ _) rfl ?_
  refine step_up K κ 3 c 26 3 (by decide) (credit_row _ _) rfl ?_
  refine leave hΦ ?_
  clear hΦ Φ
  -- part 50
  refine enter fun Φ hΦ => ?_
  rw [k0_part50_eq_skeleton]; unfold k0_part50_skel
  simp only [semSignalWord, semWaitWord, Prog.lift, Prog.bind_op, Prog.bind_ret, Prog.pure_eq_ret, wp_deviceId]
  refine step_up K κ 3 c 27 3 (by decide) (credit_row _ _) rfl ?_
  refine step_up K κ 3 c 28 3 (by decide) (credit_row _ _) rfl ?_
  refine step_up K κ 3 c 29 3 (by decide) (credit_row _ _) rfl ?_
  refine step_up K κ 3 c 30 3 (by decide) (credit_row _ _) rfl ?_
  refine leave hΦ ?_
  clear hΦ Φ
  -- part 51
  refine enter fun Φ hΦ => ?_
  rw [k0_part51_eq_skeleton]; unfold k0_part51_skel
  simp only [semSignalWord, semWaitWord, Prog.lift, Prog.bind_op, Prog.bind_ret, Prog.pure_eq_ret, wp_deviceId]
  refine before K κ (next_wait K 3 0 c _ _) ?_
  refine step_up K κ 0 c 0 0 (by decide) (credit_xrow _ _) rfl ?_
  refine step_up K κ 0 c 1 0 (by decide) (credit_xrow _ _) rfl ?_
  refine step_up K κ 0 c 2 0 (by decide) (credit_xrow _ _) rfl ?_
  refine step_up K κ 0 c 3 0 (by decide) (credit_xrow _ _) rfl ?_
  refine leave hΦ ?_
  clear hΦ Φ
  -- part 52
  refine enter fun Φ hΦ => ?_
  rw [k0_part52_eq_skeleton]; unfold k0_part52_skel
  simp only [semSignalWord, semWaitWord, Prog.lift, Prog.bind_op, Prog.bind_ret, Prog.pure_eq_ret, wp_deviceId]
  refine step_up K κ 0 c 4 0 (by decide) (credit_xrow _ _) rfl ?_
  refine step_up K κ 0 c 5 0 (by decide) (credit_xrow _ _) rfl ?_
  refine step_up K κ 0 c 6 0 (by decide) (credit_xrow _ _) rfl ?_
  refine step_up K κ 0 c 7 0 (by decide) (credit_xrow _ _) rfl ?_
  refine step_up K κ 0 c 8 0 (by decide) (credit_xrow _ _) rfl ?_
  refine leave hΦ ?_
  clear hΦ Φ
  -- part 53
  refine enter fun Φ hΦ => ?_
  rw [k0_part53_eq_skeleton]; unfold k0_part53_skel
  simp only [semSignalWord, semWaitWord, Prog.lift, Prog.bind_op, Prog.bind_ret, Prog.pure_eq_ret, wp_deviceId]
  refine step_up K κ 0 c 9 0 (by decide) (credit_xrow _ _) rfl ?_
  refine step_up K κ 0 c 10 0 (by decide) (credit_xrow _ _) rfl ?_
  refine step_up K κ 0 c 11 0 (by decide) (credit_xrow _ _) rfl ?_
  refine step_up K κ 0 c 12 0 (by decide) (credit_xrow _ _) rfl ?_
  refine step_up K κ 0 c 13 0 (by decide) (credit_xrow _ _) rfl ?_
  refine leave hΦ ?_
  clear hΦ Φ
  -- part 54
  refine enter fun Φ hΦ => ?_
  rw [k0_part54_eq_skeleton]; unfold k0_part54_skel
  simp only [semSignalWord, semWaitWord, Prog.lift, Prog.bind_op, Prog.bind_ret, Prog.pure_eq_ret, wp_deviceId]
  refine step_up K κ 0 c 14 0 (by decide) (credit_xrow _ _) rfl ?_
  refine step_up K κ 0 c 15 0 (by decide) (credit_xrow _ _) rfl ?_
  refine step_up K κ 0 c 16 0 (by decide) (credit_xrow _ _) rfl ?_
  refine step_up K κ 0 c 17 0 (by decide) (credit_xrow _ _) rfl ?_
  refine leave hΦ ?_
  clear hΦ Φ
  -- part 55
  refine enter fun Φ hΦ => ?_
  rw [k0_part55_eq_skeleton]; unfold k0_part55_skel
  simp only [semSignalWord, semWaitWord, Prog.lift, Prog.bind_op, Prog.bind_ret, Prog.pure_eq_ret, wp_deviceId]
  refine step_up K κ 0 c 18 0 (by decide) (credit_xrow _ _) rfl ?_
  refine step_up K κ 0 c 19 0 (by decide) (credit_xrow _ _) rfl ?_
  refine step_up K κ 0 c 20 0 (by decide) (credit_xrow _ _) rfl ?_
  refine step_up K κ 0 c 21 0 (by decide) (credit_xrow _ _) rfl ?_
  refine step_up K κ 0 c 22 0 (by decide) (credit_xrow _ _) rfl ?_
  refine leave hΦ ?_
  clear hΦ Φ
  -- part 56
  refine enter fun Φ hΦ => ?_
  rw [k0_part56_eq_skeleton]; unfold k0_part56_skel
  simp only [semSignalWord, semWaitWord, Prog.lift, Prog.bind_op, Prog.bind_ret, Prog.pure_eq_ret, wp_deviceId]
  refine step_up K κ 0 c 23 0 (by decide) (credit_xrow _ _) rfl ?_
  refine step_up K κ 0 c 24 0 (by decide) (credit_xrow _ _) rfl ?_
  refine step_up K κ 0 c 25 0 (by decide) (credit_xrow _ _) rfl ?_
  refine step_up K κ 0 c 26 0 (by decide) (credit_xrow _ _) rfl ?_
  refine leave hΦ ?_
  clear hΦ Φ
  -- part 57
  refine enter fun Φ hΦ => ?_
  rw [k0_part57_eq_skeleton]; unfold k0_part57_skel
  simp only [semSignalWord, semWaitWord, Prog.lift, Prog.bind_op, Prog.bind_ret, Prog.pure_eq_ret, wp_deviceId]
  refine step_up K κ 0 c 27 0 (by decide) (credit_xrow _ _) rfl ?_
  refine step_up K κ 0 c 28 0 (by decide) (credit_xrow _ _) rfl ?_
  refine step_up K κ 0 c 29 0 (by decide) (credit_xrow _ _) rfl ?_
  refine step_up K κ 0 c 30 0 (by decide) (credit_xrow _ _) rfl ?_
  refine before K κ (last_wait K 0 2 c _) ?_
  refine step_up K κ 2 c 0 0 (by decide) (credit_row _ _) rfl ?_
  refine leave hΦ ?_
  clear hΦ Φ
  -- part 58
  refine enter fun Φ hΦ => ?_
  rw [k0_part58_eq_skeleton]; unfold k0_part58_skel
  simp only [semSignalWord, semWaitWord, Prog.lift, Prog.bind_op, Prog.bind_ret, Prog.pure_eq_ret, wp_deviceId]
  refine step_up K κ 2 c 1 0 (by decide) (credit_row _ _) rfl ?_
  refine step_up K κ 2 c 2 0 (by decide) (credit_row _ _) rfl ?_
  refine step_up K κ 2 c 3 0 (by decide) (credit_row _ _) rfl ?_
  refine step_up K κ 2 c 4 0 (by decide) (credit_row _ _) rfl ?_
  refine step_up K κ 2 c 5 0 (by decide) (credit_row _ _) rfl ?_
  refine step_up K κ 2 c 6 0 (by decide) (credit_row _ _) rfl ?_
  refine leave hΦ ?_
  clear hΦ Φ
  -- part 59
  refine enter fun Φ hΦ => ?_
  rw [k0_part59_eq_skeleton]; unfold k0_part59_skel
  simp only [semSignalWord, semWaitWord, Prog.lift, Prog.bind_op, Prog.bind_ret, Prog.pure_eq_ret, wp_deviceId]
  refine step_up K κ 2 c 7 0 (by decide) (credit_row _ _) rfl ?_
  refine step_up K κ 2 c 8 0 (by decide) (credit_row _ _) rfl ?_
  refine step_up K κ 2 c 9 0 (by decide) (credit_row _ _) rfl ?_
  refine step_up K κ 2 c 10 0 (by decide) (credit_row _ _) rfl ?_
  refine step_up K κ 2 c 11 0 (by decide) (credit_row _ _) rfl ?_
  refine step_up K κ 2 c 12 0 (by decide) (credit_row _ _) rfl ?_
  refine leave hΦ ?_
  clear hΦ Φ
  -- part 60
  refine enter fun Φ hΦ => ?_
  rw [k0_part60_eq_skeleton]; unfold k0_part60_skel
  simp only [semSignalWord, semWaitWord, Prog.lift, Prog.bind_op, Prog.bind_ret, Prog.pure_eq_ret, wp_deviceId]
  refine step_up K κ 2 c 13 0 (by decide) (credit_row _ _) rfl ?_
  refine step_up K κ 2 c 14 0 (by decide) (credit_row _ _) rfl ?_
  refine step_up K κ 2 c 15 0 (by decide) (credit_row _ _) rfl ?_
  refine step_up K κ 2 c 16 0 (by decide) (credit_row _ _) rfl ?_
  refine step_up K κ 2 c 17 0 (by decide) (credit_row _ _) rfl ?_
  refine step_up K κ 2 c 18 0 (by decide) (credit_row _ _) rfl ?_
  refine leave hΦ ?_
  clear hΦ Φ
  refine leave hΦ₀ ?_
  clear hΦ₀ Φ₀
  -- part 61
  refine enter fun Φ hΦ => ?_
  rw [k0_part61_eq_skeleton]; unfold k0_part61_skel
  simp only [semSignalWord, semWaitWord, Prog.lift, Prog.bind_op, Prog.bind_ret, Prog.pure_eq_ret, wp_deviceId]
  refine step_up K κ 2 c 19 0 (by decide) (credit_row _ _) rfl ?_
  refine step_up K κ 2 c 20 0 (by decide) (credit_row _ _) rfl ?_
  refine step_up K κ 2 c 21 0 (by decide) (credit_row _ _) rfl ?_
  refine step_up K κ 2 c 22 0 (by decide) (credit_row _ _) rfl ?_
  refine step_up K κ 2 c 23 0 (by decide) (credit_row _ _) rfl ?_
  refine step_up K κ 2 c 24 0 (by decide) (credit_row _ _) rfl ?_
  refine leave hΦ ?_
  clear hΦ Φ
  -- the last waits
  simp only [semSignalWord, semWaitWord, Prog.lift, Prog.bind_op, Prog.bind_ret, Prog.pure_eq_ret, wp_deviceId]
  refine step_up K κ 2 c 25 0 (by decide) (credit_row _ _) rfl ?_
  refine step_up K κ 2 c 26 0 (by decide) (credit_row _ _) rfl ?_
  refine step_up K κ 2 c 27 0 (by decide) (credit_row _ _) rfl ?_
  refine step_up K κ 2 c 28 0 (by decide) (credit_row _ _) rfl ?_
  refine step_up K κ 2 c 29 0 (by decide) (credit_row _ _) rfl ?_
  refine step_up K κ 2 c 30 0 (by decide) (credit_row _ _) rfl ?_
  rw [wp_ret]
  exact (BIClass.sep_mono (Entails.refl _) (to_end K c)).trans fupd_intro

end Cert.KernelIdeal.AllReduce

end
-- ==== Proof.KernelIdeal.Region.lean ====
/-
The kernel's region: what it starts from, what it leaves, and its record for the launch.

The region copies the operand into the staging buffer, runs the body, and copies the result out.  The body's proof starts
from one device's launch state with its cells opened and ends with every buffer whole and every counter at zero.
-/
module

public import proofs.«01_k».proof.Proof.KernelIdeal.Ends
public import proofs.«01_k».proof.Proof.KernelIdeal.Body
public import proofs.«01_k».proof.Proof.Gen.KernelIdeal.Regions
public import Idealize.ShloMosaic.Lib.Pipeline.RegionTalk

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)
open Idealize.ShloMosaic.Ring (lead_disjoint lead_cover pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## The contents -/

/-- What device `c`'s operand holds when the body starts. -/
def operand (c : Dev nD) : (cc0_stg0_0 : Ref sig .tc).ty.Contents (Elt F) :=
  (win0_0.blk (0 : Fin 1)).view.read (Elt F) (V1 m c main_v45)

/-- The run's contents. -/
def Km : Contents F := contents (operand m)

omit [FloatOps F] in
theorem km_X [FloatOps F] (c : Dev nD) : (Km m).X c = operand m c := rfl

/-! ## The proof data -/

/-- What the body starts with besides the staging buffers. -/
def before₀ (c : Dev nD) : sProp 𝕄 :=
  iprop((∃ κ, env (Km m) κ ∗ armed c)
    ∗ (∃ s : Buf (Elt F) ((c : Thread nD τ).loc cc0_scratch0), ((c : Thread nD τ).loc cc0_scratch0) ↦{fullShare} s) ∗ ∃ r, prngReg c r)
/-- And what it ends with. -/
def after₀ (c : Dev nD) : sProp 𝕄 :=
  iprop((semVal (barCell c) 0 ∗ Pipeline.ownSems0 osem c)
    ∗ (∃ s : Buf (Elt F) ((c : Thread nD τ).loc cc0_scratch0), ((c : Thread nD τ).loc cc0_scratch0) ↦{fullShare} s) ∗ ∃ r, prngReg c r)

def dat (c : Dev nD) : Dat τ (Elt F) Unit ℕ UU ℕ cfg0 c where
  A w := V1 m c (Pipeline.arrRef spec0 w)
  after w _ := match w with
    | ⟨0, _⟩ => operand m c
    | ⟨1, _⟩ => (Km m).R
  Φ t := if t.val = 0 then before₀ m c else after₀ (F := F) c
  q _ := fullShare
  owed t := if t.val = 0 then O₀ c else 0

def pdats : (p : Fin 1) → (c : Dev nD) → Dat τ (Elt F) Unit ℕ UU ℕ (cfgs p) c
  | 0 => dat m

theorem owed_enter (c : Dev nD) : (dat m c).owed t0_0.castSucc = O₀ c := by
  show (if (t0_0.castSucc : Fin (cfg0.N + 1)).val = 0 then O₀ c else 0) = _
  exact if_pos rfl
theorem owed_exit (c : Dev nD) : (dat m c).owed (Fin.last cfg0.N) = 0 := by
  show (if (Fin.last cfg0.N).val = 0 then O₀ c else 0) = 0
  rw [Fin.val_last, if_neg (by rw [show cfg0.N = 1 from N_0]; decide)]
theorem inv_first (c : Dev nD) : (dat m c).Φ t0_0.castSucc = before₀ m c := by
  show (if (t0_0.castSucc : Fin (cfg0.N + 1)).val = 0 then before₀ m c else after₀ (F := F) c) = _
  exact if_pos rfl
theorem inv_last (c : Dev nD) : (dat m c).Φ t0_0.succ = after₀ (F := F) c := by
  show (if (t0_0.succ : Fin (cfg0.N + 1)).val = 0 then before₀ m c else after₀ (F := F) c) = _
  exact if_neg (Nat.succ_ne_zero _)

omit [FloatOps F] in
theorem owesAt_intro {c : Dev nD} (d : Dat τ (Elt F) Unit ℕ UU ℕ cfg0 c) (t : Fin (cfg0.N + 1))
    (O : CellTallies nD τ sig Unit) (h0 : d.owed t = O) (hr : d.recorded t = Set.univ) :
    owing c O ⊢ (d.owesAt () t : sProp 𝕄) := by
  unfold owing Dat.owesAt Pipeline.owesWithin Dat.bound; rw [h0, hr]
  iintro ⟨%W, HO⟩; iexists W; isplitr; · ipureintro; exact fun _ _ => Or.inl trivial
  iexact HO
omit [FloatOps F] in
theorem owesAt_elim {c : Dev nD} (d : Dat τ (Elt F) Unit ℕ UU ℕ cfg0 c) (t : Fin (cfg0.N + 1))
    (O : CellTallies nD τ sig Unit) (h0 : d.owed t = O) :
    (d.owesAt () t : sProp 𝕄) ⊢ owing c O := by
  unfold owing Dat.owesAt Pipeline.owesWithin; rw [h0]
  iintro ⟨%W, -, HO⟩; iexists W; iexact HO

/-! ## The body -/

theorem fetched_operand (c : Dev nD) (d : (cfg0.win 0).block.Idx → Elt F (cfg0.win 0).elt) : (dat m c).before 0 t0_0 d = operand m c := by
  unfold Dat.before; rw [if_pos (fetch0_0 t0_0)]; rfl

omit [FloatOps F] in
/-- A whole memref's contents, as the buffer's. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A run's end, updated. -/
theorem finish {c : Dev nD} {p : Prog (TpuEff nD τ sig (Elt F) Λ₀ .tc) PUnit} {A B B' C : sProp (MT nD τ sig Unit (Elt F) ℕ UU ℕ)}
    (h : B ⊢ wp frame (wpE (defs₀ (F := F)) 𝒱₀ (c : Thread nD τ) none) Set.univ p (fun _ => B'))
    (ha : A ⊢ B) (hc : B' ⊢ iprop(|={Set.univ}=> C)) :
    A ⊢ wp frame (wpE (defs₀ (F := F)) 𝒱₀ (c : Thread nD τ) none) Set.univ p (fun _ => C) :=
  ha.trans (h.trans ((wp_mono _ _ _ fun _ => hc).trans (wp_fupd _ _ _ _ _)))

/-- A run beside something it leaves alone. -/
theorem beside {c : Dev nD} {p : Prog (TpuEff nD τ sig (Elt F) Λ₀ .tc) PUnit} {A B C R : sProp (MT nD τ sig Unit (Elt F) ℕ UU ℕ)}
    (h : A ⊢ wp frame (wpE (defs₀ (F := F)) 𝒱₀ (c : Thread nD τ) none) Set.univ p (fun _ => B))
    (hc : iprop(B ∗ R) ⊢ C) :
    iprop(A ∗ R) ⊢ wp frame (wpE (defs₀ (F := F)) 𝒱₀ (c : Thread nD τ) none) Set.univ p (fun _ => C) :=
  (BIClass.sep_mono h (Entails.refl _)).trans ((wp_frame_r _ _ _).trans (wp_mono _ _ _ fun _ => hc))

set_option maxRecDepth 65536 in
/-- The body from one device's whole buffers to whole buffers. -/
theorem run_whole (K : Contents F) (κ : GSem nD τ sig → ℕ) (hR : ∀ c, (oRow c).view.read (Elt F) K.R = reduced K c) (c : Dev nD)
    (o : (cc0_stg1_0 : Ref sig .tc).ty.Contents (Elt F)) (s : (cc0_scratch0 : Ref sig .tc).ty.Contents (Elt F)) :
    iprop(env K κ ∗ owing c (O₀ c) ∗ armed c ∗ whole K c o s)
      ⊢ wp frame (wpE (defs₀ (F := F)) 𝒱₀ (c : Thread nD τ) none) Set.univ
          (cc0_body xM (Memref.isWhole_whole _) oM (Memref.isWhole_whole _) sM (Memref.isWhole_whole _) cc0_scratch1 cc0_scratch2 cc0_scratch3 cc0_scratch4)
          (fun _ => settled K c) :=
  finish (run_body K κ hR c) (BIClass.sep_mono (Entails.refl _) (sort_start K c o s)) (settle K κ c s)

theorem body_end (c : Dev nD) :
    iprop(settled (Km m) c ∗ ∃ r, prngReg c r)
      ⊢ iprop(after₀ (F := F) c ∗ (dat m c).owesAt () t0_0.succ
        ∗ owns (c : Thread nD τ) (Memref.whole cc0_stg0_0) fullShare (operand m c) ∗ owns (c : Thread nD τ) (Memref.whole cc0_stg1_0) fullShare (Km m).R) := by
  unfold settled after₀
  rw [owns_buffer, owns_buffer]
  iintro ⟨⟨HO, Hsem, Hx, Ho, Hs⟩, Hr⟩
  isplitl [Hsem Hs Hr]
  · isplitl [Hsem]; · iexact Hsem
    isplitl [Hs]; · iexact Hs
    iexact Hr
  isplitl [HO]
  · iapply (owesAt_intro (dat m c) t0_0.succ 0 (owed_exit m c) rfl)
    iexact HO
  isplitl [Hx]
  · iexists _; isplitr; · ipureintro; rfl
    iexact Hx
  iexists _; isplitr; · ipureintro; rfl
  iexact Ho

theorem body_start (c : Dev nD) (d : (cfg0.win 0).block.Idx → Elt F (cfg0.win 0).elt) :
    (owns (c : Thread nD τ) ((cfg0.win 0).stage (cfg0.slots t0_0 0)) fullShare ((dat m c).before 0 t0_0 d) : sProp 𝕄)
      ⊢ (((c : Thread nD τ).loc cc0_stg0_0) ↦{fullShare} (Km m).X c) := by
  rw [fetched_operand]
  refine (Entails.of_eq (owns_buffer c cc0_stg0_0 _)).trans ?_
  iintro ⟨%f, %hf, H⟩; subst hf; iexact H

set_option maxRecDepth 65536 in
theorem body (c : Dev nD) : BodyObligation (dat m c) defs₀ 𝒱₀ () Set.univ := fun t => by
  obtain rfl := fin_N0 t
  rw [bigSep_W0, bigSep_W0, inv_first, inv_last]
  unfold before₀ after₀
  iintro ⟨⟨⟨%κ, #He, Ha⟩, ⟨%s, Hs⟩, Hr⟩, HO, ⟨%d0, Hx⟩, ⟨%d1, Ho⟩⟩
  ihave HO := (owesAt_elim (dat m c) _ (O₀ c) (owed_enter m c)) $$ HO
  ihave Hx := (body_start m c d0) $$ Hx
  ihave Ho := (Entails.of_eq (owns_buffer c cc0_stg1_0 _)) $$ Ho
  icases Ho with ⟨%o, -, Ho⟩
  iapply (beside (run_whole (Km m) κ (read_gathered (operand m)) c o s) (body_end m c)) $$ [HO Ha Hx Ho Hs Hr]
  isplitl [HO Ha Hx Ho Hs]
  · isplitr; · iexact He
    isplitl [HO]; · iexact HO
    isplitl [Ha]; · iexact Ha
    unfold whole
    isplitl [Hx]; · iexact Hx
    isplitl [Ho]; · iexact Ho
    iexact Hs
  iexact Hr

end Cert.KernelIdeal.AllReduce

end
-- ==== Proof.KernelIdeal.Record.lean ====
/-
The region as one item of the whole program: what it takes from the host operations before it and what it hands on.

Before it the operand array holds the host operations' partial product; after it the result array holds the gathered rows.
-/
module

public import proofs.«01_k».proof.Proof.KernelIdeal.Region
public import Idealize.ShloMosaic.Lib.Pipeline.ValueKit.Geometry

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)
open Idealize.ShloMosaic.Ring (lead_disjoint lead_cover pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## The arrays before and after the region -/

/-- What the region leaves in its result array. -/
def outs : Outs (F := F) := fun _ r c => Function.update (fun r' : Ref sig .tc => V1 m c r') main_v46 (gathered (operand m)) r

theorem outs_result (c : Dev nD) : outs m 2 main_v46 c = gathered (operand m) := Function.update_self ..

theorem result_array (c : Dev nD) : (dat m c).arrAt 1 cfg0.N = gathered (operand m) :=
  (dat m c).arrAt_eq_of_after_last 1 t0_0 (by decide +kernel) (gathered (operand m)) fun j => rfl

/-- The block is the whole operand. -/
theorem operand_eq (c : Dev nD) : operand m c = V1 m c main_v45 := by
  funext i
  unfold operand
  refine congrArg (V1 m c main_v45) ?_
  funext a
  apply Fin.ext
  show (0 * S512x768.size a) + 1 * (i a).val = (i a).val
  omega

theorem array_in (c : Dev nD) (w : Fin cfg0.W) : (dat m c).arrAt w 0 = V1 m c (Proc.devRef .tc (Pipeline.arrRef spec0 w)) := rfl

theorem array_out (c : Dev nD) (w : Fin cfg0.W) :
    (dat m c).arrAt w cfg0.N = V2 m (outs m) c (Proc.devRef .tc (Pipeline.arrRef spec0 w)) := by
  fin_cases w
  · refine ((dat m c).arrAt_in 0 rfl _).trans ?_
    exact (V2_of m (outs m) c main_v45 (by decide)).symm
  · refine (result_array m c).trans ?_
    show _ = Function.update (V1 m c) (main_v46 : DevRef τ sig) (outs m 2 main_v46 c) main_v46
    rw [Function.update_self, outs_result]

/-! ## The region's record -/

abbrev others₀ : Finset (DevRef τ sig) := Pipeline.ucRefs τ sig \ Pipeline.arrRefs (τ := τ) spec0

theorem rest_same (c : Dev nD) (b : DevRef τ sig) (hb : b ∈ others₀ \ ∅) : V2 m (outs m) c b = V1 m c b := by
  rw [Finset.sdiff_empty] at hb
  refine Function.update_of_ne (fun h => (Finset.mem_sdiff.mp hb).2 ?_) _ _
  subst h
  exact Finset.mem_map.mpr ⟨main_v46, Finset.mem_image.mpr ⟨1, Finset.mem_univ _, rfl⟩, rfl⟩

/-- What the launch keeps for the region. -/
def Tk (c : Dev nD) : sProp 𝕄 := iprop(∃ κ, records (Km m) κ ∗ given (F := F) c ∗ credits (F := F) c)
/-- With the cells open. -/
def Xk (c : Dev nD) : sProp 𝕄 := iprop(∃ κ, env (Km m) κ ∗ armed c)
/-- What the region leaves besides buffers. -/
def Yk (c : Dev nD) : sProp 𝕄 := semVal (barCell c) 0

theorem open_region (c : Dev nD) : iprop(Tk m c ∗ Pipeline.ownSems0 osem c ∗ levAts L lv) ⊢ (iprop(|={Set.univ}=> Xk m c) : sProp 𝕄) := by
  unfold Tk Xk given
  iintro ⟨⟨%κ, #HR, ⟨Hb, Ho, Ht⟩, Hc⟩, Hs, #HL⟩
  ihave He := (show iprop(records (Km m) κ ∗ levAts L lv) ⊢ env (Km m) κ from by
    unfold env levs
    exact Entails.refl _) $$ []
  · isplitr; · iexact HR
    iexact HL
  icases He with #He
  imod (open_all (Km m) κ c) $$ [Ho Hs] with Ho
  · isplitr; · iexact He
    isplitl [Ho]; · iexact Ho
    iexact Hs
  imodintro
  iexists κ
  isplitr; · iexact He
  unfold armed
  isplitl [Hb]; · iexact Hb
  isplitl [Ho]; · iexact Ho
  isplitl [Ht]; · iexact Ht
  iexact Hc

theorem enter_region (c : Dev nD) :
    iprop(Pipeline.scopedRest spec0 c ∗ (∃ r, prngReg c r) ∗ StableHlo.held (c.tc : Thread nD τ) ∅ (V1 m c) ∗ Xk m c) ⊢ (before₀ m c : sProp 𝕄) := by
  unfold before₀ Xk
  rw [scopedRest0_eq]
  iintro ⟨Hs, Hr, -, HX⟩
  isplitl [HX]; · iexact HX
  isplitl [Hs]; · iexact Hs
  iexact Hr

theorem leave_region (c : Dev nD) :
    (after₀ (F := F) c : sProp 𝕄)
      ⊢ iprop(Pipeline.scopedRest spec0 c ∗ (∃ r, prngReg c r) ∗ StableHlo.held (c.tc : Thread nD τ) ∅ (V2 m (outs m) c) ∗ Pipeline.ownSems0 osem c ∗ Yk c) := by
  unfold after₀ Yk StableHlo.held
  rw [scopedRest0_eq, bigSep_empty]
  iintro ⟨⟨Hb, Ho⟩, Hs, Hr⟩
  isplitl [Hs]; · iexact Hs
  isplitl [Hr]; · iexact Hr
  isplitr; · iempintro
  isplitl [Ho]; · iexact Ho
  iexact Hb

theorem osem_facts : Pipeline.OwnSemFacts spec0 osem := by
  refine ⟨fun p => ?_, osem_inj, fun p w s h => ?_⟩
  · revert p; decide
  · revert h; revert s; revert w; revert p; decide

theorem above (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · rcases debt_pos h with ⟨o, -, rfl⟩ | ⟨o, -, rfl⟩ | ⟨o, -, rfl⟩
    · exact ⟨by rw [L_tc]; exact Finset.mem_singleton_self _, Nat.one_pos⟩
    · exact ⟨by rw [L_tc]; exact Finset.mem_singleton_self _, by rw [lv_cell]; decide⟩
    · exact ⟨by rw [L_tc]; exact Finset.mem_singleton_self _, by rw [lv_cell]; decide⟩
  · exact absurd h (Nat.lt_irrefl 0)

theorem below (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), famOf ((cfg0.win w).sem s) = 0 := by decide
  show (if famOf ((cfg0.win w).sem s) = 1 then 2 else if famOf ((cfg0.win w).sem s) = 3 then 3 else 0) ≤ 0
  rw [h]; decide

theorem shares (c : Dev nD) (w : Fin cfg0.W) : (dat m c).share w = fullShare := by
  unfold Dat.share; split <;> rfl

theorem owed_zero (c : Dev nD) : (dat m c).owed 0 = 0 + O₀ c := by
  show (if (0 : Fin (cfg0.N + 1)).val = 0 then O₀ c else 0) = _
  rw [zero_add]
  exact if_pos rfl

theorem inv_zero (c : Dev nD) : (dat m c).Φ 0 = before₀ m c := by
  show (if (0 : Fin (cfg0.N + 1)).val = 0 then before₀ m c else after₀ (F := F) c) = _
  exact if_pos rfl
theorem inv_end (c : Dev nD) : (dat m c).Φ (Fin.last cfg0.N) = after₀ (F := F) c := inv_last m c

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others₀ (Finset.empty_subset _) launch0.toP rfl (fun c => (body m c).loose)
    (fun _ => 0) O₀ (owed_zero m) (owed_exit m) (fun _ => rfl) (shares m)
    (V1 m) (V2 m (outs m)) (rest_same m)
    (Tk m) Yk (Xk m) Yk (open_region m)
    (fun c => (enter_region m c).trans (Entails.of_eq (inv_zero m c).symm))
    (fun c => (Entails.of_eq (inv_end m c)).trans (leave_region m c))
    (fun c => by iintro H; imodintro; iexact H)
    (fun _ => 0)
    ⟨fun c w s => by rw [L_tc]; exact Finset.mem_singleton_self _, below, above m⟩
    (fun _ => iprop(emp))
    (array_in m) (array_out m)

/-! ## Between the items -/

/-- What rides along with the buffers: before the region what the launch kept for it, after it the barrier counter. -/
def rest (j : Fin 2) (c : Dev nD) : sProp 𝕄 :=
  if j.val = 0 then iprop(Tk m c ∗ (∃ r, prngReg c r) ∗ owing c (O₀ c)) else iprop(Yk c ∗ owing c 0)

theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others₀ W) :=
  StableHlo.held_sub_split (c : Thread nD τ) (Pipeline.arrRefs_sub_ucRefs (τ := τ) spec0 (by decide)) W

theorem to_region (c : Dev nD) : iprop(StableHlo.held (c : Thread nD τ) (Pipeline.ucRefs τ sig) (V1 m c) ∗ rest m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others₀ (V1 m c) ∗ emp) ∗ Tk m c ∗ ∃ Wd, owes (c : Thread nD τ) (0 + O₀ c) Wd)
  rw [held_split, zero_add, show rest m 0 c = iprop(Tk m c ∗ (∃ r, prngReg c r) ∗ owing c (O₀ c)) from if_pos rfl]
  unfold owing
  iintro ⟨⟨Ha, Hh⟩, HT, Hr, HO⟩
  isplitl [Ha]; · iexact Ha
  isplitl [Hr]; · iexact Hr
  isplitl [Hh]
  · isplitl [Hh]; · iexact Hh
    iempintro
  isplitl [HT]; · iexact HT
  iexact HO

theorem from_region (c : Dev nD) :
    (reg m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) others₀ (V2 m (outs m) c) ∗ emp) ∗ Yk c ∗ ∃ Wd, owes (c : Thread nD τ) (0 : CellTallies nD τ sig Unit) Wd) ⊢ _
  rw [held_split, show rest m 1 c = iprop(Yk c ∗ owing c 0) from if_neg (by decide)]
  unfold owing
  iintro ⟨Ha, -, ⟨Hh, -⟩, HY, HO⟩
  isplitl [Ha Hh]
  · isplitl [Ha]; · iexact Ha
    iexact Hh
  isplitl [HY]; · iexact HY
  iexact HO

end Cert.KernelIdeal.AllReduce

end
-- ==== Proof.KernelIdeal.Run.lean ====
/-
The whole run: host operations, the region, the final reshape.

Every device ends with its arguments unchanged, its result at the gathered rows, and every counter at zero.
-/
module

public import proofs.«01_k».proof.Proof.KernelIdeal.Record
public import Idealize.ShloMosaic.Lib.Quiescent

@[expose] public section

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat BodyObligation)
open Idealize.ShloMosaic.Ring (lead_disjoint lead_cover pointsTo_blocks pointsTo_blocks_join_exists)

variable {F : FTy → Type} [FloatOps F]

local notation "𝕄" => MT nD τ sig Unit (Elt F) ℕ UU ℕ

variable (m : (ℓ : Loc nD τ sig) → Buf (Elt F) ℓ)

/-! ## The launch -/

/-- A resource held at one device only. -/
def onDev (c₀ : Dev nD) (X : sProp 𝕄) (c : Dev nD) : sProp 𝕄 := if c = c₀ then X else iprop(emp)

omit [FloatOps F] in
theorem bigSep_onDev (c₀ : Dev nD) (X : sProp 𝕄) : bigSep Finset.univ (onDev c₀ X) = X := by
  have others : bigSep (Finset.univ.erase c₀) (onDev c₀ X) = (iprop(emp) : sProp 𝕄) :=
    (bigSep_congr fun c hc => if_neg (Finset.ne_of_mem_erase hc)).trans (BI.bigSep_emp_const _)
  rw [bigSep_univ_at _ c₀, others, show onDev c₀ X c₀ = X from if_pos rfl]
  exact BI.equiv_iff.mp sep_emp

/-- The launch element of the pipeline's and the protocol's rounds. -/
def seeds : UU :=
  (initOf (Pipeline.cells (Pipeline.pin (pcfgs (F := F)) adm) cellOf_inj) (Pipeline.launchToks (Pipeline.pin (pcfgs (F := F)) adm) cellOf_inj),
    launchOf barCells cells toks)

/-- The protocol's part of it, at device 0. -/
def seedAt : Dev nD → sProp 𝕄 := onDev 0 (BI.own (ER (launchOf barCells cells toks)))

theorem seeds_split : (ownU (seeds (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ seedAt) := by
  unfold seeds seedAt
  iintro Hu
  ihave H := (ownU_pair _ _) $$ Hu
  icases H with ⟨HP, HX⟩
  imodintro
  isplitl [HP]; · iexact HP
  rw [bigSep_onDev]; iexact HX

/-- The barrier semaphore is the only one that lives outside the region. -/
theorem lone_semaphore : ∀ sm : SemLoc sig, sm.isScoped .tc = false → sm = .reg barS := by decide +kernel

omit [FloatOps F] in
theorem unscoped_counter (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (ρ : Dev nD → PrngReg)

/-- What one device brings to the launch besides its barrier counter and its seed. -/
def luggage (c : Dev nD) : sProp 𝕄 :=
  iprop(StableHlo.held (c : Thread nD τ) (Pipeline.ucRefs τ sig) (V0 m c) ∗ credits (F := F) c ∗ (∃ r, prngReg c r) ∗ owing c (O₀ c))

/-- What the program starts from on one device. -/
def start (c : Dev nD) : sProp 𝕄 :=
  iprop(StableHlo.held (c : Thread nD τ) (Pipeline.ucRefs τ sig) (V0 m c) ∗ rest m 0 c)

theorem pack (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ seedAt c)
      ⊢ (iprop(luggage m c ∗ (semVal (barCell c) 0 ∗ seedAt c)) : sProp 𝕄) := by
  rw [show unscopedBufs c (fun b => m ((c.tc : Thread nD τ).loc b)) = StableHlo.held (c : Thread nD τ) (Pipeline.ucRefs τ sig) (V0 m c)
      from Pipeline.unscopedBufs_held c (V0 m c), unscoped_counter]
  unfold luggage owing
  iintro ⟨Hh, Hs, HO, Hc, Hp, HG⟩
  isplitr [Hs HG]
  · isplitl [Hh]; · iexact Hh
    isplitl [Hc]; · iapply (creds (F := F) c) $$ Hc
    isplitl [Hp]
    · iexists (ρ c); iexact Hp
    iexists ∅; iexact HO
  isplitl [Hs]; · iexact Hs
  iexact HG

theorem unpack (κ : GSem nD τ sig → ℕ) (c : Dev nD) :
    iprop(records (Km m) κ ∗ (given (F := F) c ∗ luggage m c)) ⊢ start m c := by
  unfold start luggage
  rw [show rest m 0 c = iprop(Tk m c ∗ (∃ r, prngReg c r) ∗ owing c (O₀ c)) from if_pos rfl]
  unfold Tk
  iintro ⟨HR, Hg, Hh, Hc, Hp, HO⟩
  isplitl [Hh]; · iexact Hh
  isplitl [HR Hg Hc]
  · iexists κ
    isplitl [HR]; · iexact HR
    isplitl [Hg]; · iexact Hg
    iexact Hc
  isplitl [Hp]; · iexact Hp
  iexact HO

theorem launch_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seedAt c)) ∗ levAts L lv)
      ⊢ (|={Set.univ}=> bigSep Finset.univ (start m) : sProp 𝕄) := by
  have packed := show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seedAt c))
      ⊢ (iprop((bigSep Finset.univ fun c => luggage m c) ∗ (bigSep Finset.univ fun c : Dev nD => (semVal (barCell c) 0 : sProp 𝕄))
          ∗ bigSep Finset.univ fun c => seedAt (F := F) c) : sProp 𝕄) from by
    rw [← bigSep_sep', ← bigSep_sep']
    exact bigSep_mono fun c _ => pack m ρ c
  iintro ⟨H, -⟩
  ihave H' := packed $$ H
  icases H' with ⟨HB, Hv, HG⟩
  ihave Hu := (show bigSep Finset.univ (seedAt (F := F)) ⊢ BI.own (ER (launchOf barCells cells toks)) from
    Entails.of_eq (bigSep_onDev (F := F) 0 _)) $$ HG
  imod (fund (F := F) (Km m)) $$ [Hv Hu] with ⟨%κ, #HR, Hg⟩
  · isplitl [Hv]; · iexact Hv
    iexact Hu
  imodintro
  iapply (bigSep_with_persistent (R := records (Km m) κ) (Φ := fun c => iprop(given (F := F) c ∗ luggage m c)) fun c _ => unpack m κ c)
  isplitr; · iexact HR
  rw [bigSep_sep']
  isplitl [Hg]; · iexact Hg
  iexact HB

/-! ## The end -/

/-- What one device holds at the end. -/
def ending (c : Dev nD) : sProp 𝕄 :=
  iprop(StableHlo.held (c : Thread nD τ) (Pipeline.ucRefs τ sig) (V3 m (outs m) c) ∗ Yk c)

/-- What a final memory shows at one device. -/
def Shown (c : Dev nD) (s : MemSt nD τ sig (Elt F)) : Prop :=
  (∀ r : Ref sig .tc, (r : DevRef τ sig) ∈ Pipeline.ucRefs τ sig → s.mem ((c.tc : Thread nD τ).loc r) = V3 m (outs m) c r)
    ∧ s.sem (barCell c) = 0

theorem last_step (c : Dev nD) :
    iprop(StableHlo.held (c : Thread nD τ) (Pipeline.ucRefs τ sig) (V3 m (outs m) c) ∗ rest m 1 c)
      ⊢ (iprop(ending m c ∗ ∃ W, owes (c.tc : Thread nD τ) (0 : CellTallies nD τ sig Unit) W) : sProp 𝕄) := by
  rw [show rest m 1 c = iprop(Yk c ∗ owing c 0) from if_neg (by decide)]
  unfold ending owing
  iintro ⟨Hh, HY, HO⟩
  isplitr [HO]
  · isplitl [Hh]; · iexact Hh
    iexact HY
  iexact HO

theorem read_end (c : Dev nD) (s : Phys nD τ sig (Elt F)) :
    iprop(ending m c ∗ SI s) ⊢ (|={Set.univ}=> iprop(⌜Shown m c s.mem⌝ ∗ SI s) : sProp 𝕄) := by
  unfold ending Yk StableHlo.held
  iintro ⟨⟨Hh, Hb⟩, HSI⟩
  icombine HSI Hb gives %hb
  ihave Hr := (pointsTo_read_all (Pipeline.ucRefs τ sig) (fun b => ((c : Thread nD τ).1, b)) (V3 m (outs m) c) s) $$ [Hh HSI]
  · isplitl [Hh]; · iexact Hh
    iexact HSI
  icases Hr with ⟨%h, HSI⟩
  imodintro
  isplitr
  · ipureintro
    exact ⟨fun r hr => h r hr, by simpa using hb⟩
  iexact HSI

/-! ## The run -/

theorem in_ucRefs (b : Ref sig .tc) (h : b.isScoped = false) : (b : DevRef τ sig) ∈ Pipeline.ucRefs τ sig :=
  Finset.mem_filter.mpr ⟨StableHlo.devRef_mem_tcRefs b, by simpa using h⟩

set_option backward.isDefEq.respectTransparency.types false in
/-- From any memory with zero counters, every weakly fair execution of the program on the 32 devices terminates; every
    buffer outside the region's own ends at what the program's items leave there, and every counter of the machine is zero. -/
theorem run : θ_run defs (onTc (τ := τ) (main (F := F))) ⟨m, fun _ => 0, ρ⟩
    (fun r => (∀ c : Dev nD, Shown m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (rest m) () (pdats m) (reg m))
    (fun c Q => by
      rewrite [main_chain c, Pipeline.Seg.run_eq_chain,
        show (segs m (outs m) 𝒱₀ L lv (rest m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := seedAt) (u₀ := seeds (F := F)) (hu₀ := seeds_split)
    (T₀ := start m) (Tₙ := ending m)
    (hch := fun c => ⟨.rfl, to_region m c, from_region m c, last_step m c⟩)
    (hinit := launch_all m ρ)
    (QY := Shown m) (hfin := read_end m)
    (hQ := fun s h hs => ⟨h, sem_eq_zero hs fun c sm hsm => by
      obtain rfl := lone_semaphore sm hsm
      exact (h c).2⟩)

/-- The arguments end as they were launched. -/
theorem run_frame : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ?_, h.2⟩) (run m ρ)
  have hc := (h.1 c).1
  exact ⟨(hc main_arg0 (in_ucRefs _ rfl)).trans (V3_main_arg0 m (outs m) c),
    (hc main_arg1 (in_ucRefs _ rfl)).trans (V3_main_arg1 m (outs m) c),
    (hc main_arg2 (in_ucRefs _ rfl)).trans (V3_main_arg2 m (outs m) c),
    (hc main_arg3 (in_ucRefs _ rfl)).trans (V3_main_arg3 m (outs m) c),
    (hc main_arg4 (in_ucRefs _ rfl)).trans (V3_main_arg4 m (outs m) c)⟩

end Cert.KernelIdeal.AllReduce

end
-- ==== Proof.Value.Attention.lean ====
/-
The two ways of dividing in a softmax, over the extended reals.

The kernel multiplies each value with the exponential of its score over the sum of the exponentials.  The reference takes
the largest score off first, adds up the products, and divides at the end.  For real scores the two are equal, whatever
extended reals the values are.
-/
module

public import Idealize.ShloMosaic.Lib.Pointwise

@[expose] public section

noncomputable section

namespace Cert.Attention

open Idealize.ShloMosaic

/-- Divide first, then add up: the kernel's order. -/
def early {n : ℕ} (s v : Fin n → EReal) : EReal :=
  ∑ j, v j * Ideal.div (Ideal.exp (s j)) (∑ k, Ideal.exp (s k))

/-- Take `M` off, add up, then divide: the reference's order. -/
def late {n : ℕ} (M : EReal) (s v : Fin n → EReal) : EReal :=
  Ideal.div (∑ j, v j * Ideal.exp (s j - M)) (∑ k, Ideal.exp (s k - M))

theorem coe_sum {n : ℕ} (f : Fin n → ℝ) : (∑ j, (f j : EReal)) = ((∑ j, f j : ℝ) : EReal) := by
  induction n with
  | zero => simp
  | succ n ih => rw [Fin.sum_univ_succ, Fin.sum_univ_succ, ih, EReal.coe_add]

/-- A nonnegative real factor comes out of a sum of extended reals. -/
theorem sum_mul_coe {ι : Type*} (t : Finset ι) (f : ι → EReal) {a : ℝ} (ha : 0 ≤ a) : (∑ j ∈ t, f j) * (a : EReal) = ∑ j ∈ t, f j * (a : EReal) := by
  classical
  induction t using Finset.induction_on with
  | empty => simp
  | insert j t hj ih =>
    rw [Finset.sum_insert hj, Finset.sum_insert hj, ← ih]
    exact EReal.right_distrib_of_nonneg_of_ne_top (by exact_mod_cast ha) (EReal.coe_ne_top a) _ _

/-- The two orders agree where the scores are real. -/
theorem early_eq_late {n : ℕ} (hn : 0 < n) (M : ℝ) (s : Fin n → ℝ) (v : Fin n → EReal) :
    early (fun j => (s j : EReal)) v = late (M : EReal) (fun j => (s j : EReal)) v := by
  have hpos : ∀ f : Fin n → ℝ, 0 < ∑ k, Real.exp (f k) := fun f =>
    Finset.sum_pos (fun k _ => Real.exp_pos _) ⟨⟨0, hn⟩, Finset.mem_univ _⟩
  have hshift : ∑ k, Real.exp (s k - M) = (∑ k, Real.exp (s k)) * Real.exp (-M) := by
    rw [Finset.sum_mul]; exact Finset.sum_congr rfl fun k _ => by rw [sub_eq_add_neg, Real.exp_add]
  unfold early late
  simp only [← EReal.coe_sub, Ideal.exp_coe, coe_sum]
  rw [Ideal.div_coe (hpos fun k => s k - M).ne', sum_mul_coe _ _ (by have := hpos fun k => s k - M; positivity)]
  refine Finset.sum_congr rfl fun j _ => ?_
  rw [Ideal.div_coe (hpos s).ne', mul_assoc, ← EReal.coe_mul, ← EReal.coe_mul, hshift, sub_eq_add_neg, Real.exp_add]
  congr 2
  have h1 := (hpos s).ne'
  have h2 := (Real.exp_pos (-M)).ne'
  field_simp

/-- The running maximum of finitely many reals, begun at `⊥`, is a real. -/
theorem max_real {n : ℕ} (hn : 0 < n) (s : Fin n → ℝ) : ∃ M : ℝ, Finset.univ.fold max (⊥ : EReal) (fun k => (s k : EReal)) = (M : EReal) := by
  classical
  have h : ∀ t : Finset (Fin n), t = ∅ ∨ ∃ M : ℝ, t.fold max (⊥ : EReal) (fun k => (s k : EReal)) = (M : EReal) := by
    intro t
    induction t using Finset.induction_on with
    | empty => exact .inl rfl
    | insert j t hj ih =>
      right
      rw [Finset.fold_insert hj]
      rcases ih with rfl | ⟨M, hM⟩
      · exact ⟨s j, by simp⟩
      · exact ⟨max (s j) M, by rw [hM]; exact (EReal.coe_strictMono.monotone.map_max (a := s j) (b := M)).symm⟩
  exact (h Finset.univ).resolve_left (Finset.univ_nonempty_iff.mpr ⟨⟨0, hn⟩⟩).ne_empty

end Cert.Attention

end
-- ==== Proof.Value.KernelHost.lean ====
/-
What one device computes before the all-reduce, over the extended reals.

The host operations are named in six steps (the block of key or value columns, the projected heads, the scores, the
weights, the weighted heads, the partial product), the operand of the all-reduce is shown to be their composition, and
each step is read at an index.
-/
module

public import proofs.«01_k».proof.Proof.Gen.KernelIdeal
public import proofs.«01_k».proof.Proof.Gen.KernelIdeal.Regions
public import Idealize.ShloMosaic.Lib.Pointwise
public import Idealize.ShloMosaic.Lib.StableHlo.ReadAt

@[expose] public section

set_option maxRecDepth 16384

noncomputable section

namespace Cert.KernelIdeal.HostValue

open Cert.KernelIdeal Cert.KernelIdeal.Gen
open Idealize.ShloMosaic Idealize.ShloMosaic.TcCoe Idealize.ShloMosaic.StableHlo

/-- The first of device `c`'s key and value columns, as the program computes it. -/
def colWord (c : Dev nD) : IVec S_ 32 :=
  muli (muli (id (Host.remui (Host.divui (constantI S_ 32 (Dev.word c)) (constantI S_ 32 1#32)) (constantI S_ 32 32#32))) (constantI S_ 32 2#32))
    (constantI S_ 32 64#32)
/-- The same, made nonnegative. -/
def colStart (c : Dev nD) : IVec S_ 32 :=
  select (cmpi .slt (colWord c) (constantI S_ 32 0#32)) (addi (colWord c) (constantI S_ 32 4096#32)) (colWord c)
/-- The 128 columns of `W` that device `c` reads. -/
def kvBlock (c : Dev nD) (W : FVec Ideal S768x4096 .bf16) : FVec Ideal S768x128 .bf16 :=
  Host.dynamicSlice S768x128 W (fun k => ((![constantI S_ 32 0#32, colStart c] : Fin 2 → IVec S_ 32) k (Shape.Idx.first h_S_)).toInt)
    sliceFits_S768x4096_S768x128
/-- The device's eight query heads. -/
def queries (x : FVec Ideal S2x256x768 .bf16) (W : FVec Ideal S768x512 .bf16) : FVec Ideal S2x256x8x64 .bf16 :=
  truncf .bf16 (shapeCast S2x256x8x64 (Host.dotGeneral dot_S2x256x768_S768x512_S2x256x512_2_0_01_1_n_n none x W)
    shapeCasts_S2x256x512_S2x256x8x64) bitsLt_bf16_f32
/-- Its two key or value heads, each repeated four times. -/
def repeated (x : FVec Ideal S2x256x768 .bf16) (W : FVec Ideal S768x128 .bf16) : FVec Ideal S2x256x8x64 .bf16 :=
  truncf .bf16 (shapeCast S2x256x8x64
    (broadcastInDim S2x256x2x4x64 ![0, 1, 2, 4] bcast_S2x256x2x64_S2x256x2x4x64_0_1_2_4
      (shapeCast S2x256x2x64 (Host.dotGeneral dot_S2x256x768_S768x128_S2x256x128_2_0_01_1_n_n none x W)
        shapeCasts_S2x256x128_S2x256x2x64)) shapeCasts_S2x256x2x4x64_S2x256x8x64) bitsLt_bf16_f32
/-- The scaled scores. -/
def scores (q k : FVec Ideal S2x256x8x64 .bf16) : FVec Ideal S2x8x256x256 .f32 :=
  mulf (Host.dotGeneral dot_S2x256x8x64_S2x256x8x64_S2x8x256x256_3_3_1_1_02_02 none q k)
    (broadcastInDim S2x8x256x256 ![] bcast_S_S2x8x256x256 (constant S_ .f32 0x3E000000#32))
/-- The scores' exponentials over their sums. -/
def weights (s : FVec Ideal S2x8x256x256 .f32) : FVec Ideal S2x8x256x256 .bf16 :=
  truncf .bf16 (Host.divf (Host.exp s)
    (broadcastInDim S2x8x256x256 ![0, 1, 2, 3] bcast_S2x8x256x1_S2x8x256x256_0_1_2_3
      (broadcastInDim S2x8x256x1 ![0, 1, 2] bcast_S2x8x256_S2x8x256x1_0_1_2
        (Host.reduceAdd (Host.exp s) (constant S_ .f32 0x00000000#32) reducesTo_S2x8x256x256_S2x8x256_d3 h_S_)))) bitsLt_bf16_f32
/-- The value heads weighted, side by side. -/
def heads (v : FVec Ideal S2x256x8x64 .bf16) (p : FVec Ideal S2x8x256x256 .bf16) : FVec Ideal S2x256x512 .bf16 :=
  truncf .bf16 (shapeCast S2x256x512 (transpose S2x256x8x64 [0, 3, 1, 2]
    (Host.dotGeneral dot_S2x256x8x64_S2x8x256x256_S2x8x64x256_1_3_3_2_02_01 none v p)
    transposes_S2x8x64x256_S2x256x8x64_0_3_1_2) shapeCasts_S2x256x8x64_S2x256x512) bitsLt_bf16_f32
/-- The partial product, its rows in one dimension. -/
def part (h : FVec Ideal S2x256x512 .bf16) (W : FVec Ideal S512x768 .bf16) : FVec Ideal S512x768 .bf16 :=
  truncf .bf16 (shapeCast S512x768 (Host.dotGeneral dot_S2x256x512_S512x768_S2x256x768_2_0_01_1_n_n none h W)
    shapeCasts_S2x256x768_S512x768) bitsLt_bf16_f32

section
variable (m : (ℓ : Loc nD τ sig) → Buf (Elt Ideal) ℓ) (c : Dev nD)
theorem v11_eq : V1 m c main_v11 = kvBlock c (m ((c.tc : Thread nD τ).loc main_arg2)) := by
  have h0 : upto (hostOps0 c) (V0 m c) 17 (Proc.devRef .tc main_c_5) = constantI S_ 32 0#32 := by
    after_reads_simp
    all_goals rfl
  have h1 : upto (hostOps0 c) (V0 m c) 17 (Proc.devRef .tc main_v10) = colStart c := by
    unfold colStart colWord
    after_reads_simp
    all_goals rfl
  unfold V1 kvBlock
  after_reads_simp
  generalize upto (hostOps0 c) (V0 m c) 17 = U at h0 h1 ⊢
  refine congrArg (fun f => Host.dynamicSlice S768x128 (m ((c.tc : Thread nD τ).loc main_arg2)) f sliceFits_S768x4096_S768x128) (funext fun k => ?_)
  match k with
  | 0 => exact congrArg (fun f : IVec S_ 32 => (f (Shape.Idx.first h_S_)).toInt) h0
  | 1 => exact congrArg (fun f : IVec S_ 32 => (f (Shape.Idx.first h_S_)).toInt) h1

theorem v17_eq : V1 m c main_v17 = kvBlock c (m ((c.tc : Thread nD τ).loc main_arg3)) := by
  have h0 : upto (hostOps0 c) (V0 m c) 28 (Proc.devRef .tc main_c_10) = constantI S_ 32 0#32 := by
    after_reads_simp
    all_goals rfl
  have h1 : upto (hostOps0 c) (V0 m c) 28 (Proc.devRef .tc main_v16) = colStart c := by
    unfold colStart colWord
    after_reads_simp
    all_goals rfl
  unfold V1 kvBlock
  after_reads_simp
  generalize upto (hostOps0 c) (V0 m c) 28 = U at h0 h1 ⊢
  refine congrArg (fun f => Host.dynamicSlice S768x128 (m ((c.tc : Thread nD τ).loc main_arg3)) f sliceFits_S768x4096_S768x128) (funext fun k => ?_)
  match k with
  | 0 => exact congrArg (fun f : IVec S_ 32 => (f (Shape.Idx.first h_S_)).toInt) h0
  | 1 => exact congrArg (fun f : IVec S_ 32 => (f (Shape.Idx.first h_S_)).toInt) h1

theorem v27_eq : V1 m c main_v27 = queries (m ((c.tc : Thread nD τ).loc main_arg0)) (m ((c.tc : Thread nD τ).loc main_arg1)) := by
  unfold V1 queries
  after_results_simp
  all_goals rfl

theorem v28_eq : V1 m c main_v28 = repeated (m ((c.tc : Thread nD τ).loc main_arg0)) (V1 m c main_v11) := by
  unfold V1 repeated
  after_results_simp
  all_goals rfl

theorem v38_eq : V1 m c main_v38 = repeated (m ((c.tc : Thread nD τ).loc main_arg0)) (V1 m c main_v17) := by
  unfold V1 repeated
  after_results_simp
  all_goals rfl

theorem v31_eq : V1 m c main_v31 = scores (V1 m c main_v27) (V1 m c main_v28) := by
  unfold V1 scores
  after_results_simp
  all_goals rfl

theorem v37_eq : V1 m c main_v37 = weights (V1 m c main_v31) := by
  unfold V1 weights
  after_results_simp
  all_goals rfl

theorem v42_eq : V1 m c main_v42 = heads (V1 m c main_v38) (V1 m c main_v37) := by
  unfold V1 heads
  after_results_simp
  all_goals rfl

theorem v45_eq : V1 m c main_v45 = part (V1 m c main_v42) (m ((c.tc : Thread nD τ).loc main_arg4)) := by
  unfold V1 part
  after_results_simp
  all_goals rfl

/-- The all-reduce's operand is the composition of the steps. -/
theorem operand_steps : V1 m c main_v45
    = part (heads (repeated (m ((c.tc : Thread nD τ).loc main_arg0)) (kvBlock c (m ((c.tc : Thread nD τ).loc main_arg3))))
        (weights (scores (queries (m ((c.tc : Thread nD τ).loc main_arg0)) (m ((c.tc : Thread nD τ).loc main_arg1)))
          (repeated (m ((c.tc : Thread nD τ).loc main_arg0)) (kvBlock c (m ((c.tc : Thread nD τ).loc main_arg2)))))))
      (m ((c.tc : Thread nD τ).loc main_arg4)) := by
  rw [v45_eq, v42_eq, v37_eq, v31_eq, v27_eq, v28_eq, v38_eq, v11_eq, v17_eq]
end

/-! ## Each step at an index -/

theorem queries_apply (x : FVec Ideal S2x256x768 .bf16) (W : FVec Ideal S768x512 .bf16) (b : Fin 2) (s : Fin 256) (h : Fin 8) (d : Fin 64) :
    queries x W (ix4 b s h d) = ∑ e : Fin 768, x (ix3 b s e) * W (ix2 e ⟨h.val * 64 + d.val, by omega⟩) := by
  pointwise [queries]

theorem repeated_apply (x : FVec Ideal S2x256x768 .bf16) (W : FVec Ideal S768x128 .bf16) (b : Fin 2) (s : Fin 256) (h : Fin 8) (d : Fin 64) :
    repeated x W (ix4 b s h d) = ∑ e : Fin 768, x (ix3 b s e) * W (ix2 e ⟨h.val / 4 * 64 + d.val, by omega⟩) := by
  pointwise [repeated]

theorem scores_apply (q k : FVec Ideal S2x256x8x64 .bf16) (b : Fin 2) (h : Fin 8) (i j : Fin 256) :
    scores q k (ix4 b h i j) = (∑ d : Fin 64, q (ix4 b i h d) * k (ix4 b j h d)) * FloatOps.ofBits .f32 0x3E000000#32 := by
  pointwise [scores]

theorem weights_apply (s : FVec Ideal S2x8x256x256 .f32) (b : Fin 2) (h : Fin 8) (i j : Fin 256) :
    weights s (ix4 b h i j) = Ideal.div (Ideal.exp (s (ix4 b h i j))) (∑ j' : Fin 256, Ideal.exp (s (ix4 b h i j'))) := by
  pointwise [weights]

theorem heads_apply (v : FVec Ideal S2x256x8x64 .bf16) (p : FVec Ideal S2x8x256x256 .bf16) (b : Fin 2) (i : Fin 256) (f : Fin 512) :
    heads v p (ix3 b i f) = ∑ j : Fin 256, v (ix4 b j ⟨f.val / 64, by omega⟩ ⟨f.val % 64, by omega⟩) * p (ix4 b ⟨f.val / 64, by omega⟩ i j) := by
  pointwise [heads]

theorem part_apply (h : FVec Ideal S2x256x512 .bf16) (W : FVec Ideal S512x768 .bf16) (r : Fin 512) (D : Fin 768) :
    part h W (ix2 r D) = ∑ f : Fin 512, h (ix3 ⟨r.val / 256, by omega⟩ ⟨r.val % 256, by omega⟩ f) * W (ix2 f D) := by
  pointwise [part]

theorem colStart_apply (c : Dev nD) (i : S_.Idx) : (colStart c i).toInt = 128 * (c.val : ℤ) := by
  have hc : ∀ c : Fin 32, ((colStart c (Shape.Idx.first h_S_)).toInt = 128 * (c.val : ℤ)) := by decide +kernel
  exact hc c

theorem kvBlock_apply (c : Dev nD) (W : FVec Ideal S768x4096 .bf16) (e : Fin 768) (d : Fin 128) :
    kvBlock c W (ix2 e d) = W (ix2 e ⟨128 * c.val + d.val, by have : c.val < 32 := c.isLt; omega⟩) := by
  have hc : c.val < 32 := c.isLt
  pointwise [kvBlock]
  have h0 : Host.clampedStart S768x4096 S768x128 rfl
      (fun k => ((![constantI S_ 32 0#32, colStart c] : Fin 2 → IVec S_ 32) k (Shape.Idx.first h_S_)).toInt) 0 = 0 :=
    Host.clampedStart_of_le (s := S768x4096) (t := S768x128) rfl _ 0 0 rfl (by show 0 + 768 ≤ 768; decide)
  have h1 : Host.clampedStart S768x4096 S768x128 rfl
      (fun k => ((![constantI S_ 32 0#32, colStart c] : Fin 2 → IVec S_ 32) k (Shape.Idx.first h_S_)).toInt) 1 = 128 * c.val :=
    Host.clampedStart_of_le (s := S768x4096) (t := S768x128) rfl _ 1 (128 * c.val) (by rw [Nat.cast_mul]; exact colStart_apply c _) (by show 128 * c.val + 128 ≤ 4096; omega)
  refine congrArg W ?_
  congr 1
  · exact Fin.ext ((congrArg (· + e.val) h0).trans (Nat.zero_add _))
  · exact Fin.ext (congrArg (· + d.val) h1)

end Cert.KernelIdeal.HostValue

end
-- ==== Proof.Value.ReferenceHost.lean ====
/-
What the reference computes, over the extended reals.

Its operations are named in steps (the projected heads, the scores, the exponentials, the weighted heads divided by the
sums, the product), its result is shown to be their composition, and each step is read at an index.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.HostValue

open Cert.ReferenceIdeal Cert.ReferenceIdeal.Gen
open Idealize.ShloMosaic Idealize.ShloMosaic.TcCoe Idealize.ShloMosaic.StableHlo

/-- The 256 query heads. -/
def queries (x : FVec Ideal S2x256x768 .bf16) (W : FVec Ideal S768x16384 .bf16) : FVec Ideal S2x256x256x64 .f32 :=
  shapeCast S2x256x256x64 (Host.dotGeneral dot_S2x256x768_S768x16384_S2x256x16384_2_0_01_1_n_n none
    (extf .f32 x bitsLt_bf16_f32) (extf .f32 W bitsLt_bf16_f32)) shapeCasts_S2x256x16384_S2x256x256x64
/-- The 64 key or value heads, each repeated four times. -/
def repeated (x : FVec Ideal S2x256x768 .bf16) (W : FVec Ideal S768x4096 .bf16) : FVec Ideal S2x256x256x64 .f32 :=
  shapeCast S2x256x256x64 (broadcastInDim S2x256x64x4x64 ![0, 1, 2, 4] bcast_S2x256x64x64_S2x256x64x4x64_0_1_2_4
    (shapeCast S2x256x64x64 (Host.dotGeneral dot_S2x256x768_S768x4096_S2x256x4096_2_0_01_1_n_n none
      (extf .f32 x bitsLt_bf16_f32) (extf .f32 W bitsLt_bf16_f32)) shapeCasts_S2x256x4096_S2x256x64x64)) shapeCasts_S2x256x64x4x64_S2x256x256x64
/-- The scaled scores. -/
def scores (q k : FVec Ideal S2x256x256x64 .f32) : FVec Ideal S2x256x256x256 .f32 :=
  mulf (Host.dotGeneral dot_S2x256x256x64_S2x256x256x64_S2x256x256x256_3_3_1_1_02_02 none q k)
    (broadcastInDim S2x256x256x256 ![] bcast_S_S2x256x256x256 (constant S_ .f32 0x3E000000#32))
/-- The largest score of each row. -/
def largest (s : FVec Ideal S2x256x256x256 .f32) : FVec Ideal S2x256x256 .f32 :=
  Host.reduce FloatOps.maximumf s (constant S_ .f32 0xFF800000#32) reducesTo_S2x256x256x256_S2x256x256_d3 h_S_
/-- The exponentials of the scores less the largest. -/
def powers (s : FVec Ideal S2x256x256x256 .f32) : FVec Ideal S2x256x256x256 .f32 :=
  Host.exp (subf s (broadcastInDim S2x256x256x256 ![0, 1, 2, 3] bcast_S2x256x256x1_S2x256x256x256_0_1_2_3
    (broadcastInDim S2x256x256x1 ![0, 1, 2] bcast_S2x256x256_S2x256x256x1_0_1_2 (largest s))))
/-- The value heads weighted and divided, side by side. -/
def heads (v : FVec Ideal S2x256x256x64 .f32) (p : FVec Ideal S2x256x256x256 .f32) : FVec Ideal S2x256x16384 .f32 :=
  shapeCast S2x256x16384 (Host.divf
    (transpose S2x256x256x64 [0, 3, 1, 2] (Host.dotGeneral dot_S2x256x256x64_S2x256x256x256_S2x256x64x256_1_3_3_2_02_01 none v p)
      transposes_S2x256x64x256_S2x256x256x64_0_3_1_2)
    (broadcastInDim S2x256x256x64 ![0, 1, 2, 3] bcast_S2x256x256x1_S2x256x256x64_0_1_2_3
      (transpose S2x256x256x1 [0, 2, 1, 3] (broadcastInDim S2x256x256x1 ![0, 1, 2] bcast_S2x256x256_S2x256x256x1_0_1_2
        (Host.reduceAdd p (constant S_ .f32 0x00000000#32) reducesTo_S2x256x256x256_S2x256x256_d3 h_S_))
        transposes_S2x256x256x1_S2x256x256x1_0_2_1_3))) shapeCasts_S2x256x256x64_S2x256x16384
/-- The product with the output weights. -/
def product (h : FVec Ideal S2x256x16384 .f32) (W : FVec Ideal S16384x768 .bf16) : FVec Ideal S2x256x768 .bf16 :=
  truncf .bf16 (Host.dotGeneral dot_S2x256x16384_S16384x768_S2x256x768_2_0_01_1_n_n none h (extf .f32 W bitsLt_bf16_f32)) bitsLt_bf16_f32

/-- The result is the composition of the steps. -/
theorem result_steps (m : (ℓ : Loc nD τ sig) → Buf (Elt Ideal) ℓ) (c : Dev nD) : Value.res_main_v32 m c
    = product (heads (repeated (m ((c.tc : Thread nD τ).loc main_arg0)) (m ((c.tc : Thread nD τ).loc main_arg3)))
        (powers (scores (queries (m ((c.tc : Thread nD τ).loc main_arg0)) (m ((c.tc : Thread nD τ).loc main_arg1)))
          (repeated (m ((c.tc : Thread nD τ).loc main_arg0)) (m ((c.tc : Thread nD τ).loc main_arg2))))))
      (m ((c.tc : Thread nD τ).loc main_arg4)) := by
  unfold Value.res_main_v32 product heads powers largest scores queries repeated
  rfl

/-! ## Each step at an index -/

theorem queries_apply (x : FVec Ideal S2x256x768 .bf16) (W : FVec Ideal S768x16384 .bf16) (b : Fin 2) (s h : Fin 256) (d : Fin 64) :
    queries x W (ix4 b s h d) = ∑ e : Fin 768, x (ix3 b s e) * W (ix2 e ⟨h.val * 64 + d.val, by omega⟩) := by
  pointwise [queries]

theorem repeated_apply (x : FVec Ideal S2x256x768 .bf16) (W : FVec Ideal S768x4096 .bf16) (b : Fin 2) (s h : Fin 256) (d : Fin 64) :
    repeated x W (ix4 b s h d) = ∑ e : Fin 768, x (ix3 b s e) * W (ix2 e ⟨h.val / 4 * 64 + d.val, by omega⟩) := by
  pointwise [repeated]

theorem scores_apply (q k : FVec Ideal S2x256x256x64 .f32) (b : Fin 2) (h i j : Fin 256) :
    scores q k (ix4 b h i j) = (∑ d : Fin 64, q (ix4 b i h d) * k (ix4 b j h d)) * FloatOps.ofBits (F := Ideal) .f32 0x3E000000#32 := by
  pointwise [scores]

theorem largest_apply (s : FVec Ideal S2x256x256x256 .f32) (b : Fin 2) (h i : Fin 256) :
    largest s (ix3 b h i) = Finset.univ.fold max (⊥ : EReal) (fun j : Fin 256 => s (ix4 b h i j)) := by
  have hbot : Ideal.ofBits .f32 0xFF800000#32 = ⊥ := by simp [Ideal.ofBits, Ideal.ieee]
  pointwise [largest]
  rw [hbot]

theorem powers_apply (s : FVec Ideal S2x256x256x256 .f32) (b : Fin 2) (h i j : Fin 256) :
    powers s (ix4 b h i j) = Ideal.exp (s (ix4 b h i j) - largest s (ix3 b h i)) := by
  pointwise [powers]

theorem heads_apply (v : FVec Ideal S2x256x256x64 .f32) (p : FVec Ideal S2x256x256x256 .f32) (b : Fin 2) (i : Fin 256) (f : Fin 16384) :
    heads v p (ix3 b i f) = Ideal.div
      (∑ j : Fin 256, v (ix4 b j ⟨f.val / 64, by omega⟩ ⟨f.val % 64, by omega⟩) * p (ix4 b ⟨f.val / 64, by omega⟩ i j))
      (∑ j : Fin 256, p (ix4 b ⟨f.val / 64, by omega⟩ i j)) := by
  pointwise [heads]

theorem product_apply (h : FVec Ideal S2x256x16384 .f32) (W : FVec Ideal S16384x768 .bf16) (b : Fin 2) (i : Fin 256) (D : Fin 768) :
    product h W (ix3 b i D) = ∑ f : Fin 16384, h (ix3 b i f) * W (ix2 f D) := by
  pointwise [product]

end Cert.ReferenceIdeal.HostValue

end
-- ==== Proof.Value.Spec.lean ====
/-
The attention layer as formulas over the extended reals, over whole arrays, and what both programs compute of it.

Query head `H` reads key and value head `H / 4`.  Column `F` of the heads side by side is column `F % 64` of head `F / 64`.
-/
module

public import proofs.«01_k».proof.Proof.Value.Attention
public import proofs.«01_k».proof.Proof.Value.KernelHost
public import proofs.«01_k».proof.Proof.Value.ReferenceHost
public import Idealize.ShloMosaic.Lib.Layout

@[expose] public section

set_option maxRecDepth 16384

noncomputable section

namespace Cert.Attention

open Idealize.ShloMosaic

/-- The arrays' shapes. -/
abbrev SX : Shape := ⟨3, ![2, 256, 768]⟩
abbrev SQ : Shape := ⟨2, ![768, 16384]⟩
abbrev SK : Shape := ⟨2, ![768, 4096]⟩
abbrev SO : Shape := ⟨2, ![16384, 768]⟩

/-- Row `s` of batch `b`, times a column of weights. -/
def proj {n : ℕ} (x : FVec Ideal SX .bf16) (W : FVec Ideal ⟨2, ![768, n]⟩ .bf16) (b : Fin 2) (s : Fin 256) (k : Fin n) : EReal :=
  ∑ e : Fin 768, x (ix3 b s e) * W (ix2 e k)

/-- The scaled score of query row `i` and key row `j` in head `H`. -/
def score (x : FVec Ideal SX .bf16) (Wq : FVec Ideal SQ .bf16) (Wk : FVec Ideal SK .bf16) (b : Fin 2) (H i j : Fin 256) : EReal :=
  (∑ d : Fin 64, proj x Wq b i ⟨H.val * 64 + d.val, by omega⟩ * proj x Wk b j ⟨H.val / 4 * 64 + d.val, by omega⟩)
    * FloatOps.ofBits (F := Ideal) .f32 0x3E000000#32

/-- The value that key row `j` contributes to column `f`. -/
def value (x : FVec Ideal SX .bf16) (Wv : FVec Ideal SK .bf16) (b : Fin 2) (f : Fin 16384) (j : Fin 256) : EReal :=
  proj x Wv b j ⟨f.val / 64 / 4 * 64 + f.val % 64, by omega⟩

/-- The head of a column. -/
def headOf (f : Fin 16384) : Fin 256 := ⟨f.val / 64, by omega⟩

/-- The layer's output: the heads' columns times the output weights. -/
def output (x : FVec Ideal SX .bf16) (Wq : FVec Ideal SQ .bf16) (Wk Wv : FVec Ideal SK .bf16) (Wo : FVec Ideal SO .bf16)
    (b : Fin 2) (i : Fin 256) (D : Fin 768) : EReal :=
  ∑ f : Fin 16384, early (score x Wq Wk b (headOf f) i) (value x Wv b f) * Wo (ix2 f D)

/-! ## The scores are real -/

/-- Real summands have a real sum. -/
theorem sum_real {n : ℕ} (f : Fin n → EReal) (h : ∀ i, ∃ r : ℝ, f i = (r : EReal)) : ∃ r : ℝ, ∑ i, f i = (r : EReal) := by
  choose g hg using h
  exact ⟨∑ i, g i, by rw [← coe_sum]; exact Finset.sum_congr rfl fun i _ => hg i⟩

theorem mul_real {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem scale_real : ∃ r : ℝ, FloatOps.ofBits (F := Ideal) .f32 0x3E000000#32 = (r : EReal) := by
  refine ⟨1 / 8, ?_⟩
  rw [Ideal.ofBits_def]
  simp [Ideal.ofBits, Ideal.ieee, -EReal.coe_mul]
  norm_num

theorem score_real (x : FVec Ideal SX .bf16) (Wq : FVec Ideal SQ .bf16) (Wk : FVec Ideal SK .bf16)
    (hx : ∀ i, ∃ r : ℝ, x i = (r : EReal)) (hq : ∀ i, ∃ r : ℝ, Wq i = (r : EReal)) (hk : ∀ i, ∃ r : ℝ, Wk i = (r : EReal))
    (b : Fin 2) (H i j : Fin 256) : ∃ r : ℝ, score x Wq Wk b H i j = (r : EReal) :=
  mul_real (sum_real _ fun d => mul_real (sum_real _ fun e => mul_real (hx _) (hq _)) (sum_real _ fun e => mul_real (hx _) (hk _))) scale_real

/-- So the reference's order of dividing gives what the kernel's does. -/
theorem late_score (x : FVec Ideal SX .bf16) (Wq : FVec Ideal SQ .bf16) (Wk : FVec Ideal SK .bf16)
    (hx : ∀ i, ∃ r : ℝ, x i = (r : EReal)) (hq : ∀ i, ∃ r : ℝ, Wq i = (r : EReal)) (hk : ∀ i, ∃ r : ℝ, Wk i = (r : EReal))
    (b : Fin 2) (H i : Fin 256) (v : Fin 256 → EReal) :
    late (Finset.univ.fold max (⊥ : EReal) (score x Wq Wk b H i)) (score x Wq Wk b H i) v = early (score x Wq Wk b H i) v := by
  choose r hr using score_real x Wq Wk hx hq hk b H i
  have hs : score x Wq Wk b H i = fun j => (r j : EReal) := funext hr
  obtain ⟨M, hM⟩ := max_real (n := 256) (by decide) r
  rw [hs, hM]
  exact (early_eq_late (by decide) M r v).symm

/-! ## The reference -/

/-- The reference's composed steps are the layer. -/
theorem reference_output (x : FVec Ideal SX .bf16) (Wq : FVec Ideal SQ .bf16) (Wk Wv : FVec Ideal SK .bf16) (Wo : FVec Ideal SO .bf16)
    (hx : ∀ i, ∃ r : ℝ, x i = (r : EReal)) (hq : ∀ i, ∃ r : ℝ, Wq i = (r : EReal)) (hk : ∀ i, ∃ r : ℝ, Wk i = (r : EReal))
    (b : Fin 2) (i : Fin 256) (D : Fin 768) :
    Cert.ReferenceIdeal.HostValue.product (Cert.ReferenceIdeal.HostValue.heads (Cert.ReferenceIdeal.HostValue.repeated x Wv)
      (Cert.ReferenceIdeal.HostValue.powers (Cert.ReferenceIdeal.HostValue.scores (Cert.ReferenceIdeal.HostValue.queries x Wq)
        (Cert.ReferenceIdeal.HostValue.repeated x Wk)))) Wo (ix3 b i D) = output x Wq Wk Wv Wo b i D := by
  have hsc : ∀ H i j : Fin 256, Cert.ReferenceIdeal.HostValue.scores (Cert.ReferenceIdeal.HostValue.queries x Wq)
      (Cert.ReferenceIdeal.HostValue.repeated x Wk) (ix4 b H i j) = score x Wq Wk b H i j := fun H i j => by
    rw [Cert.ReferenceIdeal.HostValue.scores_apply]
    simp only [Cert.ReferenceIdeal.HostValue.queries_apply, Cert.ReferenceIdeal.HostValue.repeated_apply]
    rfl
  rw [Cert.ReferenceIdeal.HostValue.product_apply]
  refine Finset.sum_congr rfl fun f _ => congrArg (· * Wo (ix2 f D)) ?_
  rw [Cert.ReferenceIdeal.HostValue.heads_apply, ← late_score x Wq Wk hx hq hk b (headOf f) i]
  simp only [Cert.ReferenceIdeal.HostValue.powers_apply, Cert.ReferenceIdeal.HostValue.largest_apply, hsc,
    Cert.ReferenceIdeal.HostValue.repeated_apply]
  rfl

/-! ## One device of the kernel -/

/-- Device `c`'s columns of the query weights, its rows of the output weights. -/
def colsOf (c : Fin 32) (W : FVec Ideal SQ .bf16) : FVec Ideal ⟨2, ![768, 512]⟩ .bf16 := Layout.block ⟨2, ![768, 512]⟩ ⟨2, ![768, 16384]⟩ 1 32 c W
def rowsOf (c : Fin 32) (W : FVec Ideal SO .bf16) : FVec Ideal ⟨2, ![512, 768]⟩ .bf16 := Layout.block ⟨2, ![512, 768]⟩ ⟨2, ![16384, 768]⟩ 0 32 c W

theorem colsOf_apply (c : Fin 32) (W : FVec Ideal SQ .bf16) (e : Fin 768) (k : Fin 512) :
    colsOf c W (ix2 e k) = W (ix2 e ⟨c.val * 512 + k.val, by omega⟩) := by
  refine congrArg W (funext fun a => ?_)
  fin_cases a <;> rfl

theorem rowsOf_apply (c : Fin 32) (W : FVec Ideal SO .bf16) (k : Fin 512) (D : Fin 768) :
    rowsOf c W (ix2 k D) = W (ix2 ⟨c.val * 512 + k.val, by omega⟩ D) := by
  refine congrArg W (funext fun a => ?_)
  fin_cases a <;> rfl

/-- Device `c`'s partial product is its columns' share of the layer's output. -/
theorem device_output (c : Fin 32) (x : FVec Ideal SX .bf16) (Wq : FVec Ideal SQ .bf16) (Wk Wv : FVec Ideal SK .bf16) (Wo : FVec Ideal SO .bf16)
    (r : Fin 512) (D : Fin 768) :
    Cert.KernelIdeal.HostValue.part (Cert.KernelIdeal.HostValue.heads
      (Cert.KernelIdeal.HostValue.repeated x (Cert.KernelIdeal.HostValue.kvBlock c Wv))
      (Cert.KernelIdeal.HostValue.weights (Cert.KernelIdeal.HostValue.scores (Cert.KernelIdeal.HostValue.queries x (colsOf c Wq))
        (Cert.KernelIdeal.HostValue.repeated x (Cert.KernelIdeal.HostValue.kvBlock c Wk))))) (rowsOf c Wo) (ix2 r D)
      = ∑ k : Fin 512, early (score x Wq Wk ⟨r.val / 256, by omega⟩ (headOf ⟨c.val * 512 + k.val, by omega⟩) ⟨r.val % 256, by omega⟩)
          (value x Wv ⟨r.val / 256, by omega⟩ ⟨c.val * 512 + k.val, by omega⟩) * Wo (ix2 ⟨c.val * 512 + k.val, by omega⟩ D) := by
  have hsc : ∀ (b : Fin 2) (k : Fin 512) (i j : Fin 256), Cert.KernelIdeal.HostValue.scores (Cert.KernelIdeal.HostValue.queries x (colsOf c Wq))
      (Cert.KernelIdeal.HostValue.repeated x (Cert.KernelIdeal.HostValue.kvBlock c Wk)) (ix4 b ⟨k.val / 64, by omega⟩ i j)
      = score x Wq Wk b (headOf ⟨c.val * 512 + k.val, by omega⟩) i j := fun b k i j => by
    rw [Cert.KernelIdeal.HostValue.scores_apply]
    unfold score proj headOf
    refine congrArg (· * _) (Finset.sum_congr rfl fun d _ => ?_)
    rw [Cert.KernelIdeal.HostValue.queries_apply, Cert.KernelIdeal.HostValue.repeated_apply]
    refine congrArg₂ (· * ·) (Finset.sum_congr rfl fun e _ => ?_) (Finset.sum_congr rfl fun e _ => ?_)
    · rw [colsOf_apply]
      refine congrArg (fun t => x (ix3 b i e) * Wq (ix2 e t)) (Fin.ext ?_)
      show c.val * 512 + (k.val / 64 * 64 + d.val) = (c.val * 512 + k.val) / 64 * 64 + d.val
      omega
    · rw [Cert.KernelIdeal.HostValue.kvBlock_apply]
      refine congrArg (fun t => x (ix3 b j e) * Wk (ix2 e t)) (Fin.ext ?_)
      show 128 * c.val + (k.val / 64 / 4 * 64 + d.val) = (c.val * 512 + k.val) / 64 / 4 * 64 + d.val
      omega
  rw [Cert.KernelIdeal.HostValue.part_apply]
  refine Finset.sum_congr rfl fun k _ => ?_
  rw [rowsOf_apply, Cert.KernelIdeal.HostValue.heads_apply]
  refine congrArg (· * _) (Finset.sum_congr rfl fun j _ => ?_)
  rw [Cert.KernelIdeal.HostValue.weights_apply]
  simp only [hsc]
  refine congrArg (· * _) ?_
  rw [Cert.KernelIdeal.HostValue.repeated_apply]
  unfold value proj
  refine Finset.sum_congr rfl fun e _ => ?_
  rw [Cert.KernelIdeal.HostValue.kvBlock_apply]
  refine congrArg (fun t => x (ix3 _ j e) * Wv (ix2 e t)) (Fin.ext ?_)
  show 128 * c.val + (k.val / 64 / 4 * 64 + k.val % 64) = (c.val * 512 + k.val) / 64 / 4 * 64 + (c.val * 512 + k.val) % 64
  omega

end Cert.Attention

end
-- ==== Proof.Value.Reduced.lean ====
/-
The all-reduce's result over the extended reals: each element is the sum over the 32 devices' operands.

The program adds the device's own chunk to two trees over the 31 that arrived.  Addition of extended reals is commutative
and associative, so the trees are the sum over the distances, and with the device's own chunk the sum over the devices.
-/
module

public import proofs.«01_k».proof.Proof.KernelIdeal.Pieces
public import Idealize.ShloMosaic.Lib.Pointwise

@[expose] public section

set_option maxRecDepth 16384

noncomputable section

namespace Cert.KernelIdeal.AllReduce

open Cert.KernelIdeal Cert.KernelIdeal.Gen
open Idealize.ShloMosaic Idealize.ShloMosaic.TcCoe

/-- A landed chunk without its leading dimension of one. -/
theorem cast_slot (K : Contents Ideal) (c : Dev nD) (o : Fin 31) :
    shapeCast S16x768 (slotVal K c o) shapeCasts_S1x16x768_S16x768 = chunk K (peer c o) c := by
  funext j
  exact congrArg (chunk K (peer c o) c) (Equiv.symm_apply_apply _ j)

theorem slot_apply (K : Contents Ideal) (c : Dev nD) (o : Fin 31) (j : S16x768.Idx) :
    slotVal K c o (ix3 0 (j 0) (j 1)) = chunk K (peer c o) c j := by
  refine Eq.trans ?_ (congrFun (cast_slot K c o) j)
  pointwise

/-- The two trees are the sum. -/
theorem trees (a : EReal) (w : Fin 31 → EReal) :
    a + ((w 30 + w 29 + (w 28 + w 27) + (w 26 + w 25 + (w 24 + w 23))) + (w 22 + w 21 + (w 20 + w 19) + (w 18 + w 17 + w 16)))
        + ((w 15 + w 14 + (w 13 + w 12) + (w 11 + w 10 + (w 9 + w 8))) + (w 7 + w 6 + (w 5 + w 4) + (w 3 + w 2 + (w 1 + w 0))))
      = a + ∑ o : Fin 31, w o := by
  have hl : List.finRange 31 = [0, 1, 2, 3, 4, 5, 6, 7, 8, 9, 10, 11, 12, 13, 14, 15, 16, 17, 18, 19, 20, 21, 22, 23, 24, 25, 26, 27, 28, 29, 30] := by
    decide
  rw [Fin.sum_univ_def, hl]
  simp only [List.map_cons, List.map_nil, List.sum_cons, List.sum_nil, add_zero]
  ac_rfl

/-- The program's trees, read at an index. -/
theorem reduced_apply (K : Contents Ideal) (c : Dev nD) (j : S16x768.Idx) :
    (reduced K c j : EReal) = chunk K c c j + ∑ o : Fin 31, (chunk K (peer c o) c j : EReal) := by
  unfold reduced k0_pay34 k0_pay16 k0_pay1 k0_pay2 k0_pay3 k0_pay4 k0_pay5 k0_pay6 k0_pay7 k0_pay8 k0_pay9 k0_pay10 k0_pay11 k0_pay12
    k0_pay13 k0_pay14 k0_pay15 k0_pay17 k0_pay18 k0_pay19 k0_pay20 k0_pay21 k0_pay22 k0_pay23 k0_pay24 k0_pay25 k0_pay26 k0_pay27 k0_pay28
    k0_pay29 k0_pay30 k0_pay31 k0_pay32 k0_pay33
  pointwise
  simp only [slot_apply, ownVal]
  exact trees (chunk K c c j) fun o => chunk K (peer c o) c j

/-- The sum over the distances and the device itself is the sum over the devices. -/
theorem sum_peers (c : Dev nD) (f : Dev nD → EReal) : f c + ∑ o : Fin 31, f (peer c o) = ∑ d : Dev nD, f d := by
  classical
  rw [← Finset.add_sum_erase Finset.univ f (Finset.mem_univ c)]
  congr 1
  rw [← Finset.sum_image (s := Finset.univ) (g := peer c) (f := f) fun a _ b _ h => peer_inj c h]
  refine Finset.sum_congr (Finset.ext fun d => ?_) fun _ _ => rfl
  constructor
  · intro h
    obtain ⟨o, _, rfl⟩ := Finset.mem_image.mp h
    exact Finset.mem_erase.mpr ⟨peer_ne c o, Finset.mem_univ _⟩
  · intro h
    obtain ⟨o, rfl⟩ := peer_surj c d (Finset.ne_of_mem_erase h)
    exact Finset.mem_image_of_mem _ (Finset.mem_univ o)

/-- A chunk's element, where the whole array has it. -/
theorem chunk_apply (K : Contents Ideal) (d : Dev nD) (i : S512x768.Idx) : chunk K d (ownerOf i) (within i) = K.X d i := by
  refine congrArg (K.X d) (funext fun a => ?_)
  fin_cases a
  · apply Fin.ext
    show 16 * ((i 0).val / 16) + 1 * ((i 0).val % 16) = (i 0).val
    omega
  · apply Fin.ext
    show 0 + 1 * (i 1).val = (i 1).val
    omega

/-- The result is the sum of the devices' operands. -/
theorem gathered_apply (X : Dev nD → S512x768.Idx → EReal) (i : S512x768.Idx) :
    gathered (F := Ideal) X i = (∑ d : Dev nD, X d i : EReal) := by
  unfold gathered
  refine (reduced_apply _ _ _).trans ((sum_peers (ownerOf i) fun d => chunk (⟨X, X 0⟩ : Contents Ideal) d (ownerOf i) (within i)).trans ?_)
  exact Finset.sum_congr rfl fun d _ => chunk_apply _ d i

end Cert.KernelIdeal.AllReduce

end
-- ==== Proof.Value.Finite.lean ====
/-
What the precondition says: the elements of the three arrays that the scores are made of are real numbers.
-/
module

public import proofs.«01_k».proof.Pre_finite_scores_KernelIdeal
public import Idealize.ShloMosaic.Lib.Pointwise

@[expose] public section

noncomputable section

namespace Cert.Finite

open Idealize.ShloMosaic

/-- Both of two conjoined bits are set. -/
theorem both_set (a b : BitVec 1) (h : IntOp.andi a b = 1#1) : a = 1#1 ∧ b = 1#1 := by
  revert a b; decide

/-- Every conjunct of a fold that ends set is set. -/
theorem all_set {α : Type} (p : α → BitVec 1) : ∀ (l : List α) (a : BitVec 1), l.foldl (fun r i => IntOp.andi r (p i)) a = 1#1 →
    a = 1#1 ∧ ∀ i ∈ l, p i = 1#1 := by
  intro l
  induction l with
  | nil => intro a h; exact ⟨h, fun i hi => by cases hi⟩
  | cons x l ih =>
    intro a h
    obtain ⟨h1, h2⟩ := ih _ h
    obtain ⟨h3, h4⟩ := both_set _ _ h1
    refine ⟨h3, fun i hi => ?_⟩
    rcases List.mem_cons.mp hi with rfl | hi
    · exact h4
    · exact h2 i hi

/-- An array of bits whose conjunction over every dimension is set holds set bits only. -/
theorem all_bits {s u : Shape} {axes : List (Fin s.rank)} (p : s.Idx → BitVec 1) (init : u.Idx → BitVec 1)
    (h : s.ReducesTo axes ⟨0, ![]⟩) (hu : 0 < u.numel) (j : (⟨0, ![]⟩ : Shape).Idx) (he : Host.reduce IntOp.andi p init h hu j = 1#1) (i : s.Idx) :
    p i = 1#1 := by
  rw [Host.reduce_eq_foldl] at he
  refine (all_set p _ _ he).2 i (List.mem_filter.mpr ⟨List.mem_map.mpr ⟨s.rowMajor i, List.mem_finRange _, Equiv.symm_apply_apply _ i⟩, ?_⟩)
  exact decide_eq_true (funext fun a => a.elim0)

/-- What is smaller than infinity in absolute value is a real number. -/
theorem real_of_lt (x : EReal) (h : Ideal.cmp .olt (max x (-x)) ⊤ = 1#1) : ∃ r : ℝ, x = (r : EReal) := by
  have hlt : max x (-x) < ⊤ := by
    by_contra hn
    simp [Ideal.cmp, hn] at h
  induction x with
  | bot => simp at hlt
  | top => simp at hlt
  | coe r => exact ⟨r, rfl⟩

theorem inf_word : Ideal.ofBits .bf16 0x7F80#16 = ⊤ := by simp [Ideal.ofBits, Ideal.ieee]

variable [Cert.Pre_finite_scores_KernelIdeal.Facts]
open Cert.Pre_finite_scores_KernelIdeal Cert.Pre_finite_scores_KernelIdeal.Facts

/-- The precondition, taken apart. -/
theorem real_of_pre (x : FVec Ideal S2x256x768 .bf16) (Wq : FVec Ideal S768x512 .bf16) (Wk Wv : FVec Ideal S768x4096 .bf16)
    (Wo : FVec Ideal S512x768 .bf16) (h : fn (F := Ideal) x Wq Wk Wv Wo = fun _ => 1#1) :
    (∀ i, ∃ r : ℝ, x i = (r : EReal)) ∧ (∀ i, ∃ r : ℝ, Wq i = (r : EReal)) ∧ ∀ i, ∃ r : ℝ, Wk i = (r : EReal) := by
  have h0 := congrFun h (fun a => a.elim0)
  unfold fn at h0
  obtain ⟨h12, h3⟩ := both_set _ _ h0
  obtain ⟨h1, h2⟩ := both_set _ _ h12
  refine ⟨fun i => real_of_lt _ ?_, fun i => real_of_lt _ ?_, fun i => real_of_lt _ ?_⟩
  · have e := all_bits _ _ _ _ _ h1 i
    rw [← inf_word]; exact e
  · have e := all_bits _ _ _ _ _ h2 i
    rw [← inf_word]; exact e
  · have e := all_bits _ _ _ _ _ h3 i
    rw [← inf_word]; exact e

end Cert.Finite

end
-- ==== Proof.Value.Meet.lean ====
/-
The kernel's result is the reference's, over the extended reals.

Each device's operand is its columns' share of the layer's output; the all-reduce adds the 32 shares up; the shares of the
32 devices together are the sum over all 16384 columns, which is the reference's product.
-/
module

public import proofs.«01_k».proof.Proof.Value.Spec
public import proofs.«01_k».proof.Proof.Value.Reduced
public import proofs.«01_k».proof.Proof.Value.Finite
public import proofs.«01_k».proof.Proof.KernelIdeal.Run

@[expose] public section

set_option maxRecDepth 16384

noncomputable section

namespace Cert.Attention

open Idealize.ShloMosaic Idealize.ShloMosaic.TcCoe Idealize.ShloMosaic.StableHlo
open Cert.KernelIdeal Cert.KernelIdeal.Gen Cert.KernelIdeal.AllReduce

section
variable (m : (ℓ : Loc nD τ sig) → Buf (Elt Ideal) ℓ) (c : Dev nD)

/-- The result buffer is the gathered rows, each of the two batches in its own dimension again. -/
theorem result_cast : V3 m (outs m) c main_v47
    = shapeCast S2x256x768 (gathered (operand m) : FVec Ideal S512x768 .bf16) shapeCasts_S512x768_S2x256x768 := by
  have h : V2 m (outs m) c main_v46 = gathered (operand m) := (Function.update_self ..).trans (outs_result m c)
  rw [← h]
  unfold V3
  after_results_simp
  all_goals rfl

/-- A device's operand and its result, as arrays of extended reals. -/
def operandAt : S512x768.Idx → EReal := V1 m c main_v45
def resultAt : S2x256x768.Idx → EReal := V3 m (outs m) c main_v47

theorem cast_rows (G : FVec Ideal S512x768 .bf16) (b : Fin 2) (i : Fin 256) (D : Fin 768) :
    shapeCast S2x256x768 G shapeCasts_S512x768_S2x256x768 (ix3 b i D) = G (ix2 ⟨b.val * 256 + i.val, by omega⟩ D) := by
  pointwise

theorem result_apply (b : Fin 2) (i : Fin 256) (D : Fin 768) :
    resultAt m c (ix3 b i D) = ∑ d : Dev nD, operandAt m d (ix2 ⟨b.val * 256 + i.val, by omega⟩ D) := by
  have hop : operand m = operandAt m := funext fun d => operand_eq m d
  refine (congrFun (result_cast m c) _).trans ((cast_rows _ b i D).trans ?_)
  rw [hop]
  exact gathered_apply (operandAt m) _
end

/-- The kernel's result over whole arrays. -/
theorem kernel_output (m : (ℓ : Loc nD τ sig) → Buf (Elt Ideal) ℓ)
    (x : FVec Ideal SX .bf16) (Wq : FVec Ideal SQ .bf16) (Wk Wv : FVec Ideal SK .bf16) (Wo : FVec Ideal SO .bf16)
    (h : ∀ c : Dev nD, m ((c.tc : Thread nD τ).loc main_arg0) = x ∧ m ((c.tc : Thread nD τ).loc main_arg1) = colsOf c Wq
      ∧ m ((c.tc : Thread nD τ).loc main_arg2) = Wk ∧ m ((c.tc : Thread nD τ).loc main_arg3) = Wv
      ∧ m ((c.tc : Thread nD τ).loc main_arg4) = rowsOf c Wo)
    (c : Dev nD) (b : Fin 2) (i : Fin 256) (D : Fin 768) :
    resultAt m c (ix3 b i D) = output x Wq Wk Wv Wo b i D := by
  rw [result_apply]
  unfold output
  rw [Fin.sum_univ_tiles 32 512 rfl]
  refine Finset.sum_congr rfl fun d _ => ?_
  obtain ⟨h0, h1, h2, h3, h4⟩ := h d
  unfold operandAt
  rw [HostValue.operand_steps, h0, h1, h2, h3, h4, device_output]
  have eb : (⟨(b.val * 256 + i.val) / 256, by omega⟩ : Fin 2) = b := Fin.ext (by show (b.val * 256 + i.val) / 256 = b.val; omega)
  have ei : (⟨(b.val * 256 + i.val) % 256, by omega⟩ : Fin 256) = i := Fin.ext (by show (b.val * 256 + i.val) % 256 = i.val; omega)
  simp only [eb, ei]

/-- The two programs' results are equal. -/
theorem results_meet (m : (ℓ : Loc nD τ sig) → Buf (Elt Ideal) ℓ)
    (m' : (ℓ : Loc Cert.ReferenceIdeal.nD Cert.ReferenceIdeal.τ Cert.ReferenceIdeal.sig) → Buf (Elt Ideal) ℓ)
    (x : FVec Ideal SX .bf16) (Wq : FVec Ideal SQ .bf16) (Wk Wv : FVec Ideal SK .bf16) (Wo : FVec Ideal SO .bf16)
    (hx : ∀ i, ∃ r : ℝ, x i = (r : EReal)) (hq : ∀ i, ∃ r : ℝ, Wq i = (r : EReal)) (hk : ∀ i, ∃ r : ℝ, Wk i = (r : EReal))
    (h : ∀ c : Dev nD, m ((c.tc : Thread nD τ).loc main_arg0) = x ∧ m ((c.tc : Thread nD τ).loc main_arg1) = colsOf c Wq
      ∧ m ((c.tc : Thread nD τ).loc main_arg2) = Wk ∧ m ((c.tc : Thread nD τ).loc main_arg3) = Wv
      ∧ m ((c.tc : Thread nD τ).loc main_arg4) = rowsOf c Wo)
    (d : Dev Cert.ReferenceIdeal.nD)
    (h' : m' ((d.tc : Thread Cert.ReferenceIdeal.nD Cert.ReferenceIdeal.τ).loc Cert.ReferenceIdeal.main_arg0) = x
      ∧ m' ((d.tc : Thread Cert.ReferenceIdeal.nD Cert.ReferenceIdeal.τ).loc Cert.ReferenceIdeal.main_arg1) = Wq
      ∧ m' ((d.tc : Thread Cert.ReferenceIdeal.nD Cert.ReferenceIdeal.τ).loc Cert.ReferenceIdeal.main_arg2) = Wk
      ∧ m' ((d.tc : Thread Cert.ReferenceIdeal.nD Cert.ReferenceIdeal.τ).loc Cert.ReferenceIdeal.main_arg3) = Wv
      ∧ m' ((d.tc : Thread Cert.ReferenceIdeal.nD Cert.ReferenceIdeal.τ).loc Cert.ReferenceIdeal.main_arg4) = Wo)
    (c : Dev nD) : V3 m (outs m) c main_v47 = Cert.ReferenceIdeal.Value.res_main_v32 m' d := by
  obtain ⟨h0, h1, h2, h3, h4⟩ := h'
  rw [Cert.ReferenceIdeal.HostValue.result_steps, h0, h1, h2, h3, h4]
  funext j
  idx_vars j
  exact (kernel_output m x Wq Wk Wv Wo h c _ _ _).trans (reference_output x Wq Wk Wv Wo hx hq hk _ _ _).symm

end Cert.Attention

end
-- ==== Proof.Value.Algebraic.lean ====
/-
The value claim: from finite x, Wq and Wk, the kernel ends on every device with the reference's result.
-/
module

public import proofs.«01_k».proof.Defs
public import proofs.«01_k».proof.Proof.Value.Meet
public import proofs.«01_k».proof.Proof.Gen.ReferenceIdeal.Run
public import proofs.«01_k».proof.Proof.Gen.Pre_finite_scores_KernelIdeal

@[expose] public section

set_option maxRecDepth 16384

noncomputable section

namespace Cert.Attention

open Idealize.ShloMosaic Idealize.ShloMosaic.TcCoe Idealize.SL.Sem
open Cert.KernelIdeal Cert.KernelIdeal.Gen Cert.KernelIdeal.AllReduce

/-- Where every device's columns are real, the whole array is: each column is some device's. -/
theorem real_of_cols (W : FVec Ideal SQ .bf16) (h : ∀ (c : Fin 32) i, ∃ r : ℝ, colsOf c W i = (r : EReal)) (i : SQ.Idx) :
    ∃ r : ℝ, W i = (r : EReal) := by
  have key : ∀ (e : Fin 768) (f : Fin 16384), ∃ r : ℝ, W (ix2 e f) = (r : EReal) := by
    intro e f
    obtain ⟨r, hr⟩ := h ⟨f.val / 512, by omega⟩ (ix2 e ⟨f.val % 512, by omega⟩)
    rw [colsOf_apply] at hr
    refine ⟨r, (congrArg (fun t => W (ix2 e t)) (Fin.ext ?_)).trans hr⟩
    show f.val = f.val / 512 * 512 + f.val % 512
    omega
  idx_vars i
  exact key _ _

/-- The kernel's final memory: its result buffer, and its arguments as they were. -/
theorem kernel_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v47) = V3 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 main_v47 (in_ucRefs _ rfl),
    ((h.1 c).1 main_arg0 (in_ucRefs _ rfl)).trans (V3_main_arg0 m (outs m) c),
    ((h.1 c).1 main_arg1 (in_ucRefs _ rfl)).trans (V3_main_arg1 m (outs m) c),
    ((h.1 c).1 main_arg2 (in_ucRefs _ rfl)).trans (V3_main_arg2 m (outs m) c),
    ((h.1 c).1 main_arg3 (in_ucRefs _ rfl)).trans (V3_main_arg3 m (outs m) c),
    ((h.1 c).1 main_arg4 (in_ucRefs _ rfl)).trans (V3_main_arg4 m (outs m) c)⟩) (run m g)

/-- The value claim. -/
theorem algebraic : Cert.algebraic_KernelIdeal_ReferenceIdeal_pre_finite_scores_KernelIdeal := by
  intro m g m' g' pre h
  have real := fun c => Cert.Finite.real_of_pre _ _ _ _ _ (pre c)
  have hx := (real 0).1
  rw [(h 0).1] at hx
  have hk := (real 0).2.2
  rw [(h 0).2.2.1] at hk
  have hq := real_of_cols (m' (((0 : Dev Cert.ReferenceIdeal.nD).tc : Thread Cert.ReferenceIdeal.nD Cert.ReferenceIdeal.τ).loc Cert.ReferenceIdeal.main_arg1))
    fun c => by
      have e := (real c).2.1
      rw [(h c).2.1] at e
      exact e
  refine ⟨Cert.ReferenceIdeal.Value.res_main_v32 m' 0,
    (θ_run defs _ _).mono (fun _ k c => ⟨(k c).1.trans (results_meet m m' _ _ _ _ _ hx hq hk h 0 ⟨rfl, rfl, rfl, rfl, rfl⟩ c), (k c).2⟩)
      (kernel_run m g), ?_⟩
  exact (θ_run Cert.ReferenceIdeal.defs _ _).mono (fun _ k => k 0) (Cert.ReferenceIdeal.Value.run m' g')

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Kernel.Run
public import proofs.«01_k».proof.Proof.KernelIdeal.Run
public import proofs.«01_k».proof.Proof.Value.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, keeps its arguments and leaves every counter at zero. -/
theorem frame_kernel : Cert.quiescent_Kernel := fun m ρ _ => Cert.Kernel.AllReduce.run_frame (F := Bits) m ρ

/-- So does its idealization. -/
theorem frame_ideal : Cert.quiescent_KernelIdeal := fun m ρ _ => Cert.KernelIdeal.AllReduce.run_frame (F := Ideal) m ρ

/-- The reference is host operations only and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two frames again, of the executions that start within the precondition: it is not needed. -/
theorem frame_ideal_pre : Cert.quiescent_KernelIdeal_pre_finite_scores_KernelIdeal := fun m ρ _ => frame_ideal m ρ trivial

theorem frame_reference_pre : Cert.quiescent_ReferenceIdeal_pre_finite_scores_ReferenceIdeal := fun m ρ _ => frame_reference m ρ trivial

/-- The certificate. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_ideal, frame_ideal_pre, frame_reference, frame_reference_pre, trivial, Cert.Attention.algebraic⟩

end Cert.Proof

end
